-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S2048x2048 : Shape := ⟨2, ![2048, 2048]⟩
abbrev S3x688x1024 : Shape := ⟨3, ![3, 688, 1024]⟩
abbrev S3x688x512 : Shape := ⟨3, ![3, 688, 512]⟩
abbrev S3x688x256 : Shape := ⟨3, ![3, 688, 256]⟩
abbrev S3x3x2 : Shape := ⟨3, ![3, 3, 2]⟩
abbrev S_ : Shape := ⟨0, ![]⟩
abbrev S688x256 : Shape := ⟨2, ![688, 256]⟩
abbrev S256x1024 : Shape := ⟨2, ![256, 1024]⟩
abbrev S688x1024 : Shape := ⟨2, ![688, 1024]⟩
abbrev S1x1x1 : Shape := ⟨3, ![1, 1, 1]⟩
abbrev S1x344x1024 : Shape := ⟨3, ![1, 344, 1024]⟩
abbrev S344x1024 : Shape := ⟨2, ![344, 1024]⟩
abbrev S672x256 : Shape := ⟨2, ![672, 256]⟩
abbrev S672x1024 : Shape := ⟨2, ![672, 1024]⟩
abbrev S1x336x1024 : Shape := ⟨3, ![1, 336, 1024]⟩
abbrev S336x1024 : Shape := ⟨2, ![336, 1024]⟩
abbrev S1x344x512 : Shape := ⟨3, ![1, 344, 512]⟩
abbrev S344x512 : Shape := ⟨2, ![344, 512]⟩
abbrev S1x336x512 : Shape := ⟨3, ![1, 336, 512]⟩
abbrev S336x512 : Shape := ⟨2, ![336, 512]⟩
abbrev S1x344x256 : Shape := ⟨3, ![1, 344, 256]⟩
abbrev S344x256 : Shape := ⟨2, ![344, 256]⟩
abbrev S1x336x256 : Shape := ⟨3, ![1, 336, 256]⟩
abbrev S336x256 : Shape := ⟨2, ![336, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | .local _ .vmem, ⟨0, _⟩ => ⟨S2048x256, .f32⟩
  | .local _ .vmem, ⟨1, _⟩ => ⟨S256x2048, .f32⟩
  | .local _ .vmem, ⟨2, _⟩ => ⟨S2048x2048, .f32⟩
  | .local _ .vmem, ⟨3, _⟩ => ⟨S3x688x1024, .f32⟩
  | .local _ .vmem, ⟨4, _⟩ => ⟨S3x688x512, .f32⟩
  | .local _ .vmem, ⟨5, _⟩ => ⟨S3x688x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_30 : BitVec 32 := 1#32
  let v49 : BitVec 32 := Scalar.xori v2 c1_i32_30
  let c1_i32_32 : BitVec 32 := 1#32
  let v50 : BitVec 32 := Scalar.muli v49 c1_i32_32
  let v51 : BitVec 32 := Scalar.addi c0_i32_33 v50
  v51.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_34 : BitVec 32 := 3#32
  let v52 : BitVec 32 := Scalar.xori v2 c3_i32_34
  let c1_i32_36 : BitVec 32 := 1#32
  let v53 : BitVec 32 := Scalar.muli v52 c1_i32_36
  let v54 : BitVec 32 := Scalar.addi c0_i32_37 v53
  v54.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_38 : BitVec 32 := 4#32
  let v55 : BitVec 32 := Scalar.xori v2 c4_i32_38
  let c1_i32_40 : BitVec 32 := 1#32
  let v56 : BitVec 32 := Scalar.muli v55 c1_i32_40
  let v57 : BitVec 32 := Scalar.addi c0_i32_41 v56
  v57.toNat
def k0_off1 (d0 : Dev nD) : Fin 2 → Nat :=
  let c0_46 : Index := 0#32
  let c0_i32_44 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v58 : BitVec 32 := Scalar.subi c1_i32_42 v5
  let c1024_i32_43 : BitVec 32 := 1024#32
  let v59 : BitVec 32 := Scalar.muli v58 c1024_i32_43
  let v60 : BitVec 32 := Scalar.addi c0_i32_44 v59
  let v63 : Index := Scalar.indexCast v60
  ![0, v63.toNat]
def k0_off2 (d0 : Dev nD) : Fin 2 → Nat :=
  let c0_47 : Index := 0#32
  let c0_i32_44 : BitVec 32 := 0#32
  let c1_i32_42 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v58 : BitVec 32 := Scalar.subi c1_i32_42 v5
  let c1024_i32_43 : BitVec 32 := 1024#32
  let v59 : BitVec 32 := Scalar.muli v58 c1024_i32_43
  let v60 : BitVec 32 := Scalar.addi c0_i32_44 v59
  let v67 : Index := Scalar.indexCast v60
  ![0, v67.toNat]
def k0_off3 (d0 : Dev nD) : Fin 2 → Nat :=
  let c0_i32_63 : BitVec 32 := 0#32
  let c0_i32_51 : BitVec 32 := 0#32
  let c1_i32_49 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v69 : BitVec 32 := Scalar.subi c1_i32_49 v5
  let c1024_i32_50 : BitVec 32 := 1024#32
  let v70 : BitVec 32 := Scalar.muli v69 c1024_i32_50
  let v71 : BitVec 32 := Scalar.addi c0_i32_51 v70
  ![0, v71.toNat]
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v21 : BitVec 32 := Scalar.xori v2 c1_i32_15
  let c1_i32_59 : BitVec 32 := 1#32
  let v72 : BitVec 32 := Scalar.muli v21 c1_i32_59
  let v73 : BitVec 32 := Scalar.addi c0_i32_60 v72
  v73.toNat
def k0_off4 (d0 : Dev nD) : Fin 2 → Nat :=
  let c344_i32_77 : BitVec 32 := 344#32
  let c0_i32_66 : BitVec 32 := 0#32
  let c1_i32_64 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v81 : BitVec 32 := Scalar.subi c1_i32_64 v5
  let c1024_i32_65 : BitVec 32 := 1024#32
  let v82 : BitVec 32 := Scalar.muli v81 c1024_i32_65
  let v83 : BitVec 32 := Scalar.addi c0_i32_66 v82
  ![344, v83.toNat]
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v21 : BitVec 32 := Scalar.xori v2 c1_i32_15
  let c1_i32_74 : BitVec 32 := 1#32
  let v84 : BitVec 32 := Scalar.muli v21 c1_i32_74
  let v85 : BitVec 32 := Scalar.addi c0_i32_75 v84
  v85.toNat
def k0_off5 (d0 : Dev nD) (c1_i32_5 : BitVec 32) : Fin 2 → Nat :=
  let c0_82 : Index := 0#32
  let c0_i32_80 : BitVec 32 := 0#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v10 : BitVec 32 := Scalar.shrsi v2 c1_i32_5
  let c1_i32_6 : BitVec 32 := 1#32
  let v11 : BitVec 32 := Scalar.andi v10 c1_i32_6
  let v93 : BitVec 32 := Scalar.subi c1_i32_78 v11
  let c1024_i32_79 : BitVec 32 := 1024#32
  let v94 : BitVec 32 := Scalar.muli v93 c1024_i32_79
  let v95 : BitVec 32 := Scalar.addi c0_i32_80 v94
  let v98 : Index := Scalar.indexCast v95
  ![0, v98.toNat]
def k0_off6 (d0 : Dev nD) : Fin 2 → Nat :=
  let c688_84 : Index := 688#32
  let c0_i32_80 : BitVec 32 := 0#32
  let c1_i32_78 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let v93 : BitVec 32 := Scalar.subi c1_i32_78 v11
  let c1024_i32_79 : BitVec 32 := 1024#32
  let v94 : BitVec 32 := Scalar.muli v93 c1024_i32_79
  let v95 : BitVec 32 := Scalar.addi c0_i32_80 v94
  let v102 : Index := Scalar.indexCast v95
  ![688, v102.toNat]
def k0_off7 (d0 : Dev nD) : Fin 2 → Nat :=
  let c688_i32 : BitVec 32 := 688#32
  let c0_i32_87 : BitVec 32 := 0#32
  let c1_i32_85 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let v104 : BitVec 32 := Scalar.subi c1_i32_85 v11
  let c1024_i32_86 : BitVec 32 := 1024#32
  let v105 : BitVec 32 := Scalar.muli v104 c1024_i32_86
  let v106 : BitVec 32 := Scalar.addi c0_i32_87 v105
  ![688, v106.toNat]
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v24 : BitVec 32 := Scalar.xori v2 c3_i32_16
  let c1_i32_95 : BitVec 32 := 1#32
  let v107 : BitVec 32 := Scalar.muli v24 c1_i32_95
  let v108 : BitVec 32 := Scalar.addi c0_i32_96 v107
  v108.toNat
def k0_off8 (d0 : Dev nD) : Fin 2 → Nat :=
  let c1032_i32 : BitVec 32 := 1032#32
  let c0_i32_101 : BitVec 32 := 0#32
  let c1_i32_99 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let v116 : BitVec 32 := Scalar.subi c1_i32_99 v11
  let c1024_i32_100 : BitVec 32 := 1024#32
  let v117 : BitVec 32 := Scalar.muli v116 c1024_i32_100
  let v118 : BitVec 32 := Scalar.addi c0_i32_101 v117
  ![1032, v118.toNat]
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v24 : BitVec 32 := Scalar.xori v2 c3_i32_16
  let c1_i32_109 : BitVec 32 := 1#32
  let v119 : BitVec 32 := Scalar.muli v24 c1_i32_109
  let v120 : BitVec 32 := Scalar.addi c0_i32_110 v119
  v120.toNat
def k0_off9 (d0 : Dev nD) : Fin 2 → Nat :=
  let c1376_119 : Index := 1376#32
  let c0_i32_115 : BitVec 32 := 0#32
  let c1_i32_113 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let v128 : BitVec 32 := Scalar.subi c1_i32_113 v16
  let c1024_i32_114 : BitVec 32 := 1024#32
  let v129 : BitVec 32 := Scalar.muli v128 c1024_i32_114
  let v130 : BitVec 32 := Scalar.addi c0_i32_115 v129
  let v137 : Index := Scalar.indexCast v130
  ![1376, v137.toNat]
def k0_off10 (d0 : Dev nD) : Fin 2 → Nat :=
  let c1376_i32 : BitVec 32 := 1376#32
  let c0_i32_122 : BitVec 32 := 0#32
  let c1_i32_120 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let v139 : BitVec 32 := Scalar.subi c1_i32_120 v16
  let c1024_i32_121 : BitVec 32 := 1024#32
  let v140 : BitVec 32 := Scalar.muli v139 c1024_i32_121
  let v141 : BitVec 32 := Scalar.addi c0_i32_122 v140
  ![1376, v141.toNat]
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v27 : BitVec 32 := Scalar.xori v2 c4_i32_19
  let c1_i32_130 : BitVec 32 := 1#32
  let v142 : BitVec 32 := Scalar.muli v27 c1_i32_130
  let v143 : BitVec 32 := Scalar.addi c0_i32_131 v142
  v143.toNat
def k0_off11 (d0 : Dev nD) : Fin 2 → Nat :=
  let c1712_i32 : BitVec 32 := 1712#32
  let c0_i32_136 : BitVec 32 := 0#32
  let c1_i32_134 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let v151 : BitVec 32 := Scalar.subi c1_i32_134 v16
  let c1024_i32_135 : BitVec 32 := 1024#32
  let v152 : BitVec 32 := Scalar.muli v151 c1024_i32_135
  let v153 : BitVec 32 := Scalar.addi c0_i32_136 v152
  ![1712, v153.toNat]
def k0_dev9 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v27 : BitVec 32 := Scalar.xori v2 c4_i32_19
  let c1_i32_144 : BitVec 32 := 1#32
  let v154 : BitVec 32 := Scalar.muli v27 c1_i32_144
  let v155 : BitVec 32 := Scalar.addi c0_i32_145 v154
  v155.toNat
def k0_off12 (d0 : Dev nD) : Fin 2 → Nat :=
  let c0_151 : Index := 0#32
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_147 : BitVec 32 := 1024#32
  let v163 : BitVec 32 := Scalar.muli v5 c1024_i32_147
  let v164 : BitVec 32 := Scalar.addi c0_i32_148 v163
  let v167 : Index := Scalar.indexCast v164
  ![0, v167.toNat]
def k0_off13 (d0 : Dev nD) : Fin 2 → Nat :=
  let c0_153 : Index := 0#32
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_147 : BitVec 32 := 1024#32
  let v163 : BitVec 32 := Scalar.muli v5 c1024_i32_147
  let v164 : BitVec 32 := Scalar.addi c0_i32_148 v163
  let v171 : Index := Scalar.indexCast v164
  ![0, v171.toNat]
def k0_off14 (d0 : Dev nD) (c1_i32_5 : BitVec 32) : Fin 2 → Nat :=
  let c0_158 : Index := 0#32
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v10 : BitVec 32 := Scalar.shrsi v2 c1_i32_5
  let c1_i32_6 : BitVec 32 := 1#32
  let v11 : BitVec 32 := Scalar.andi v10 c1_i32_6
  let c1024_i32_154 : BitVec 32 := 1024#32
  let v173 : BitVec 32 := Scalar.muli v11 c1024_i32_154
  let v174 : BitVec 32 := Scalar.addi c0_i32_155 v173
  let v177 : Index := Scalar.indexCast v174
  ![0, v177.toNat]
def k0_off15 (d0 : Dev nD) : Fin 2 → Nat :=
  let c688_160 : Index := 688#32
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_154 : BitVec 32 := 1024#32
  let v173 : BitVec 32 := Scalar.muli v11 c1024_i32_154
  let v174 : BitVec 32 := Scalar.addi c0_i32_155 v173
  let v181 : Index := Scalar.indexCast v174
  ![688, v181.toNat]
def k0_off16 (d0 : Dev nD) : Fin 2 → Nat :=
  let c1376_167 : Index := 1376#32
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_161 : BitVec 32 := 1024#32
  let v183 : BitVec 32 := Scalar.muli v16 c1024_i32_161
  let v184 : BitVec 32 := Scalar.addi c0_i32_162 v183
  let v191 : Index := Scalar.indexCast v184
  ![1376, v191.toNat]
def k0_off17 (d0 : Dev nD) : Fin 2 → Nat :=
  let c0_193 : Index := 0#32
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_191 : BitVec 32 := 1024#32
  let v205 : BitVec 32 := Scalar.muli v5 c1024_i32_191
  let v206 : BitVec 32 := Scalar.addi c0_i32_192 v205
  let v207 : Index := Scalar.indexCast v206
  ![0, v207.toNat]
def k0_off18 (d0 : Dev nD) : Fin 2 → Nat :=
  let c0_i32_211 : BitVec 32 := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_198 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v215 : BitVec 32 := Scalar.subi c1_i32_198 v7
  let c512_i32_199 : BitVec 32 := 512#32
  let v216 : BitVec 32 := Scalar.muli v215 c512_i32_199
  let v217 : BitVec 32 := Scalar.addi v31 v216
  ![0, v217.toNat]
def k0_dev10 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_207 : BitVec 32 := 1#32
  let v218 : BitVec 32 := Scalar.muli v22 c1_i32_207
  let v219 : BitVec 32 := Scalar.addi c0_i32_208 v218
  v219.toNat
def k0_off19 (d0 : Dev nD) : Fin 2 → Nat :=
  let c344 : Index := 344#32
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32_235 : BitVec 32 := 1024#32
  let v239 : BitVec 32 := Scalar.muli v5 c1024_i32_235
  let v240 : BitVec 32 := Scalar.addi c0_i32_236 v239
  let v241 : Index := Scalar.indexCast v240
  ![344, v241.toNat]
def k0_off20 (d0 : Dev nD) : Fin 2 → Nat :=
  let c344_i32_254 : BitVec 32 := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_241 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v249 : BitVec 32 := Scalar.subi c1_i32_241 v7
  let c512_i32_242 : BitVec 32 := 512#32
  let v250 : BitVec 32 := Scalar.muli v249 c512_i32_242
  let v251 : BitVec 32 := Scalar.addi v31 v250
  ![344, v251.toNat]
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_250 : BitVec 32 := 1#32
  let v252 : BitVec 32 := Scalar.muli v22 c1_i32_250
  let v253 : BitVec 32 := Scalar.addi c0_i32_251 v252
  v253.toNat
def k0_off21 (d0 : Dev nD) : Fin 2 → Nat :=
  let c688_280 : Index := 688#32
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_278 : BitVec 32 := 1024#32
  let v273 : BitVec 32 := Scalar.muli v11 c1024_i32_278
  let v274 : BitVec 32 := Scalar.addi c0_i32_279 v273
  let v275 : Index := Scalar.indexCast v274
  ![688, v275.toNat]
def k0_off22 (d0 : Dev nD) : Fin 2 → Nat :=
  let c688_i32_297 : BitVec 32 := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c1_i32_284 : BitVec 32 := 1#32
  let c2_i32_7 : BitVec 32 := 2#32
  let v12 : BitVec 32 := Scalar.shrsi v2 c2_i32_7
  let c1_i32_8 : BitVec 32 := 1#32
  let v13 : BitVec 32 := Scalar.andi v12 c1_i32_8
  let v283 : BitVec 32 := Scalar.subi c1_i32_284 v13
  let c512_i32_285 : BitVec 32 := 512#32
  let v284 : BitVec 32 := Scalar.muli v283 c512_i32_285
  let v285 : BitVec 32 := Scalar.addi v37 v284
  ![688, v285.toNat]
def k0_dev12 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v25 : BitVec 32 := Scalar.xori v2 c4_i32_17
  let c1_i32_293 : BitVec 32 := 1#32
  let v286 : BitVec 32 := Scalar.muli v25 c1_i32_293
  let v287 : BitVec 32 := Scalar.addi c0_i32_294 v286
  v287.toNat
def k0_off23 (d0 : Dev nD) : Fin 2 → Nat :=
  let c1032 : Index := 1032#32
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_321 : BitVec 32 := 1024#32
  let v307 : BitVec 32 := Scalar.muli v11 c1024_i32_321
  let v308 : BitVec 32 := Scalar.addi c0_i32_322 v307
  let v309 : Index := Scalar.indexCast v308
  ![1032, v309.toNat]
def k0_off24 (d0 : Dev nD) : Fin 2 → Nat :=
  let c1032_i32_340 : BitVec 32 := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c1_i32_327 : BitVec 32 := 1#32
  let c2_i32_7 : BitVec 32 := 2#32
  let v12 : BitVec 32 := Scalar.shrsi v2 c2_i32_7
  let c1_i32_8 : BitVec 32 := 1#32
  let v13 : BitVec 32 := Scalar.andi v12 c1_i32_8
  let v317 : BitVec 32 := Scalar.subi c1_i32_327 v13
  let c512_i32_328 : BitVec 32 := 512#32
  let v318 : BitVec 32 := Scalar.muli v317 c512_i32_328
  let v319 : BitVec 32 := Scalar.addi v37 v318
  ![1032, v319.toNat]
def k0_dev13 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v25 : BitVec 32 := Scalar.xori v2 c4_i32_17
  let c1_i32_336 : BitVec 32 := 1#32
  let v320 : BitVec 32 := Scalar.muli v25 c1_i32_336
  let v321 : BitVec 32 := Scalar.addi c0_i32_337 v320
  v321.toNat
def k0_off25 (d0 : Dev nD) : Fin 2 → Nat :=
  let c1376_366 : Index := 1376#32
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_364 : BitVec 32 := 1024#32
  let v341 : BitVec 32 := Scalar.muli v16 c1024_i32_364
  let v342 : BitVec 32 := Scalar.addi c0_i32_365 v341
  let v343 : Index := Scalar.indexCast v342
  ![1376, v343.toNat]
def k0_off26 (d0 : Dev nD) : Fin 2 → Nat :=
  let c1376_i32_383 : BitVec 32 := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_370 : BitVec 32 := 1#32
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let v351 : BitVec 32 := Scalar.subi c1_i32_370 v19
  let c512_i32_371 : BitVec 32 := 512#32
  let v352 : BitVec 32 := Scalar.muli v351 c512_i32_371
  let v353 : BitVec 32 := Scalar.addi v43 v352
  ![1376, v353.toNat]
def k0_dev14 (d0 : Dev nD) : Nat :=
  let c0_i32_380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v28 : BitVec 32 := Scalar.xori v2 c1_i32_20
  let c1_i32_379 : BitVec 32 := 1#32
  let v354 : BitVec 32 := Scalar.muli v28 c1_i32_379
  let v355 : BitVec 32 := Scalar.addi c0_i32_380 v354
  v355.toNat
def k0_off27 (d0 : Dev nD) : Fin 2 → Nat :=
  let c1712 : Index := 1712#32
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_407 : BitVec 32 := 1024#32
  let v375 : BitVec 32 := Scalar.muli v16 c1024_i32_407
  let v376 : BitVec 32 := Scalar.addi c0_i32_408 v375
  let v377 : Index := Scalar.indexCast v376
  ![1712, v377.toNat]
def k0_off28 (d0 : Dev nD) : Fin 2 → Nat :=
  let c1712_i32_425 : BitVec 32 := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_412 : BitVec 32 := 1#32
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let v385 : BitVec 32 := Scalar.subi c1_i32_412 v19
  let c512_i32_413 : BitVec 32 := 512#32
  let v386 : BitVec 32 := Scalar.muli v385 c512_i32_413
  let v387 : BitVec 32 := Scalar.addi v43 v386
  ![1712, v387.toNat]
def k0_dev15 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v28 : BitVec 32 := Scalar.xori v2 c1_i32_20
  let c1_i32_421 : BitVec 32 := 1#32
  let v388 : BitVec 32 := Scalar.muli v28 c1_i32_421
  let v389 : BitVec 32 := Scalar.addi c0_i32_422 v388
  v389.toNat
def k0_off29 (d0 : Dev nD) : Fin 2 → Nat :=
  let c0_450 : Index := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32_449 : BitVec 32 := 512#32
  let v409 : BitVec 32 := Scalar.muli v7 c512_i32_449
  let v410 : BitVec 32 := Scalar.addi v31 v409
  let v411 : Index := Scalar.indexCast v410
  ![0, v411.toNat]
def k0_off30 (d0 : Dev nD) : Fin 2 → Nat :=
  let c0_i32_468 : BitVec 32 := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  let c1_i32_455 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v419 : BitVec 32 := Scalar.subi c1_i32_455 v9
  let c256_i32_456 : BitVec 32 := 256#32
  let v420 : BitVec 32 := Scalar.muli v419 c256_i32_456
  let v421 : BitVec 32 := Scalar.addi v33 v420
  ![0, v421.toNat]
def k0_dev16 (d0 : Dev nD) : Nat :=
  let c0_i32_465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v23 : BitVec 32 := Scalar.xori v2 c4_i32
  let c1_i32_464 : BitVec 32 := 1#32
  let v422 : BitVec 32 := Scalar.muli v23 c1_i32_464
  let v423 : BitVec 32 := Scalar.addi c0_i32_465 v422
  v423.toNat
def k0_off31 (d0 : Dev nD) : Fin 2 → Nat :=
  let c344_493 : Index := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32_492 : BitVec 32 := 512#32
  let v443 : BitVec 32 := Scalar.muli v7 c512_i32_492
  let v444 : BitVec 32 := Scalar.addi v31 v443
  let v445 : Index := Scalar.indexCast v444
  ![344, v445.toNat]
def k0_off32 (d0 : Dev nD) : Fin 2 → Nat :=
  let c344_i32_511 : BitVec 32 := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  let c1_i32_498 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v453 : BitVec 32 := Scalar.subi c1_i32_498 v9
  let c256_i32_499 : BitVec 32 := 256#32
  let v454 : BitVec 32 := Scalar.muli v453 c256_i32_499
  let v455 : BitVec 32 := Scalar.addi v33 v454
  ![344, v455.toNat]
def k0_dev17 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v23 : BitVec 32 := Scalar.xori v2 c4_i32
  let c1_i32_507 : BitVec 32 := 1#32
  let v456 : BitVec 32 := Scalar.muli v23 c1_i32_507
  let v457 : BitVec 32 := Scalar.addi c0_i32_508 v456
  v457.toNat
def k0_off33 (d0 : Dev nD) : Fin 2 → Nat :=
  let c688_536 : Index := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_535 : BitVec 32 := 512#32
  let v477 : BitVec 32 := Scalar.muli v13 c512_i32_535
  let v478 : BitVec 32 := Scalar.addi v37 v477
  let v479 : Index := Scalar.indexCast v478
  ![688, v479.toNat]
def k0_off34 (d0 : Dev nD) : Fin 2 → Nat :=
  let c688_i32_554 : BitVec 32 := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  let c1_i32_541 : BitVec 32 := 1#32
  let c1_i32_9 : BitVec 32 := 1#32
  let v14 : BitVec 32 := Scalar.andi v2 c1_i32_9
  let v487 : BitVec 32 := Scalar.subi c1_i32_541 v14
  let c256_i32_542 : BitVec 32 := 256#32
  let v488 : BitVec 32 := Scalar.muli v487 c256_i32_542
  let v489 : BitVec 32 := Scalar.addi v39 v488
  ![688, v489.toNat]
def k0_dev18 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v26 : BitVec 32 := Scalar.xori v2 c1_i32_18
  let c1_i32_550 : BitVec 32 := 1#32
  let v490 : BitVec 32 := Scalar.muli v26 c1_i32_550
  let v491 : BitVec 32 := Scalar.addi c0_i32_551 v490
  v491.toNat
def k0_off35 (d0 : Dev nD) : Fin 2 → Nat :=
  let c1032_579 : Index := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_578 : BitVec 32 := 512#32
  let v511 : BitVec 32 := Scalar.muli v13 c512_i32_578
  let v512 : BitVec 32 := Scalar.addi v37 v511
  let v513 : Index := Scalar.indexCast v512
  ![1032, v513.toNat]
def k0_off36 (d0 : Dev nD) : Fin 2 → Nat :=
  let c1032_i32_597 : BitVec 32 := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  let c1_i32_584 : BitVec 32 := 1#32
  let c1_i32_9 : BitVec 32 := 1#32
  let v14 : BitVec 32 := Scalar.andi v2 c1_i32_9
  let v521 : BitVec 32 := Scalar.subi c1_i32_584 v14
  let c256_i32_585 : BitVec 32 := 256#32
  let v522 : BitVec 32 := Scalar.muli v521 c256_i32_585
  let v523 : BitVec 32 := Scalar.addi v39 v522
  ![1032, v523.toNat]
def k0_dev19 (d0 : Dev nD) : Nat :=
  let c0_i32_594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v26 : BitVec 32 := Scalar.xori v2 c1_i32_18
  let c1_i32_593 : BitVec 32 := 1#32
  let v524 : BitVec 32 := Scalar.muli v26 c1_i32_593
  let v525 : BitVec 32 := Scalar.addi c0_i32_594 v524
  v525.toNat
def k0_off37 (d0 : Dev nD) : Fin 2 → Nat :=
  let c1376_622 : Index := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_621 : BitVec 32 := 512#32
  let v545 : BitVec 32 := Scalar.muli v19 c512_i32_621
  let v546 : BitVec 32 := Scalar.addi v43 v545
  let v547 : Index := Scalar.indexCast v546
  ![1376, v547.toNat]
def k0_off38 (d0 : Dev nD) : Fin 2 → Nat :=
  let c1376_i32_640 : BitVec 32 := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  let c1_i32_627 : BitVec 32 := 1#32
  let c1_i32_14 : BitVec 32 := 1#32
  let v20 : BitVec 32 := Scalar.andi v2 c1_i32_14
  let v555 : BitVec 32 := Scalar.subi c1_i32_627 v20
  let c256_i32_628 : BitVec 32 := 256#32
  let v556 : BitVec 32 := Scalar.muli v555 c256_i32_628
  let v557 : BitVec 32 := Scalar.addi v45 v556
  ![1376, v557.toNat]
def k0_dev20 (d0 : Dev nD) : Nat :=
  let c0_i32_637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v29 : BitVec 32 := Scalar.xori v2 c3_i32_21
  let c1_i32_636 : BitVec 32 := 1#32
  let v558 : BitVec 32 := Scalar.muli v29 c1_i32_636
  let v559 : BitVec 32 := Scalar.addi c0_i32_637 v558
  v559.toNat
def k0_off39 (d0 : Dev nD) : Fin 2 → Nat :=
  let c1712_665 : Index := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_664 : BitVec 32 := 512#32
  let v579 : BitVec 32 := Scalar.muli v19 c512_i32_664
  let v580 : BitVec 32 := Scalar.addi v43 v579
  let v581 : Index := Scalar.indexCast v580
  ![1712, v581.toNat]
def k0_off40 (d0 : Dev nD) : Fin 2 → Nat :=
  let c1712_i32_683 : BitVec 32 := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  let c1_i32_670 : BitVec 32 := 1#32
  let c1_i32_14 : BitVec 32 := 1#32
  let v20 : BitVec 32 := Scalar.andi v2 c1_i32_14
  let v589 : BitVec 32 := Scalar.subi c1_i32_670 v20
  let c256_i32_671 : BitVec 32 := 256#32
  let v590 : BitVec 32 := Scalar.muli v589 c256_i32_671
  let v591 : BitVec 32 := Scalar.addi v45 v590
  ![1712, v591.toNat]
def k0_dev21 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v29 : BitVec 32 := Scalar.xori v2 c3_i32_21
  let c1_i32_679 : BitVec 32 := 1#32
  let v592 : BitVec 32 := Scalar.muli v29 c1_i32_679
  let v593 : BitVec 32 := Scalar.addi c0_i32_680 v592
  v593.toNat
def k0_off41 (d0 : Dev nD) : Fin 2 → Nat :=
  let c0_708 : Index := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  let c2_i32 : BitVec 32 := 2#32
  let v8 : BitVec 32 := Scalar.shrsi v2 c2_i32
  let c1_i32_4 : BitVec 32 := 1#32
  let v9 : BitVec 32 := Scalar.andi v8 c1_i32_4
  let c256_i32_707 : BitVec 32 := 256#32
  let v613 : BitVec 32 := Scalar.muli v9 c256_i32_707
  let v614 : BitVec 32 := Scalar.addi v33 v613
  let v615 : Index := Scalar.indexCast v614
  ![0, v615.toNat]
def k0_off42 (d0 : Dev nD) : Fin 2 → Nat :=
  let c0_i32_721 : BitVec 32 := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  let c2_i32 : BitVec 32 := 2#32
  let v8 : BitVec 32 := Scalar.shrsi v2 c2_i32
  let c1_i32_4 : BitVec 32 := 1#32
  let v9 : BitVec 32 := Scalar.andi v8 c1_i32_4
  let c256_i32 : BitVec 32 := 256#32
  let v34 : BitVec 32 := Scalar.muli v9 c256_i32
  let v35 : BitVec 32 := Scalar.addi v33 v34
  ![0, v35.toNat]
def k0_dev22 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v23 : BitVec 32 := Scalar.xori v2 c4_i32
  let c1_i32_719 : BitVec 32 := 1#32
  let v623 : BitVec 32 := Scalar.muli v23 c1_i32_719
  let v624 : BitVec 32 := Scalar.addi c0_i32_720 v623
  v624.toNat
def k0_off43 (d0 : Dev nD) : Fin 2 → Nat :=
  let c344_747 : Index := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  let c2_i32 : BitVec 32 := 2#32
  let v8 : BitVec 32 := Scalar.shrsi v2 c2_i32
  let c1_i32_4 : BitVec 32 := 1#32
  let v9 : BitVec 32 := Scalar.andi v8 c1_i32_4
  let c256_i32_746 : BitVec 32 := 256#32
  let v643 : BitVec 32 := Scalar.muli v9 c256_i32_746
  let v644 : BitVec 32 := Scalar.addi v33 v643
  let v645 : Index := Scalar.indexCast v644
  ![344, v645.toNat]
def k0_off44 (d0 : Dev nD) : Fin 2 → Nat :=
  let c344_i32_760 : BitVec 32 := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  let c2_i32 : BitVec 32 := 2#32
  let v8 : BitVec 32 := Scalar.shrsi v2 c2_i32
  let c1_i32_4 : BitVec 32 := 1#32
  let v9 : BitVec 32 := Scalar.andi v8 c1_i32_4
  let c256_i32 : BitVec 32 := 256#32
  let v34 : BitVec 32 := Scalar.muli v9 c256_i32
  let v35 : BitVec 32 := Scalar.addi v33 v34
  ![344, v35.toNat]
def k0_dev23 (d0 : Dev nD) : Nat :=
  let c0_i32_759 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v23 : BitVec 32 := Scalar.xori v2 c4_i32
  let c1_i32_758 : BitVec 32 := 1#32
  let v653 : BitVec 32 := Scalar.muli v23 c1_i32_758
  let v654 : BitVec 32 := Scalar.addi c0_i32_759 v653
  v654.toNat
def k0_off45 (d0 : Dev nD) : Fin 2 → Nat :=
  let c688_786 : Index := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  let c1_i32_9 : BitVec 32 := 1#32
  let v14 : BitVec 32 := Scalar.andi v2 c1_i32_9
  let c256_i32_785 : BitVec 32 := 256#32
  let v673 : BitVec 32 := Scalar.muli v14 c256_i32_785
  let v674 : BitVec 32 := Scalar.addi v39 v673
  let v675 : Index := Scalar.indexCast v674
  ![688, v675.toNat]
def k0_off46 (d0 : Dev nD) : Fin 2 → Nat :=
  let c688_i32_799 : BitVec 32 := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  let c1_i32_9 : BitVec 32 := 1#32
  let v14 : BitVec 32 := Scalar.andi v2 c1_i32_9
  let c256_i32_25 : BitVec 32 := 256#32
  let v40 : BitVec 32 := Scalar.muli v14 c256_i32_25
  let v41 : BitVec 32 := Scalar.addi v39 v40
  ![688, v41.toNat]
def k0_dev24 (d0 : Dev nD) : Nat :=
  let c0_i32_798 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v26 : BitVec 32 := Scalar.xori v2 c1_i32_18
  let c1_i32_797 : BitVec 32 := 1#32
  let v683 : BitVec 32 := Scalar.muli v26 c1_i32_797
  let v684 : BitVec 32 := Scalar.addi c0_i32_798 v683
  v684.toNat
def k0_off47 (d0 : Dev nD) : Fin 2 → Nat :=
  let c1032_825 : Index := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  let c1_i32_9 : BitVec 32 := 1#32
  let v14 : BitVec 32 := Scalar.andi v2 c1_i32_9
  let c256_i32_824 : BitVec 32 := 256#32
  let v703 : BitVec 32 := Scalar.muli v14 c256_i32_824
  let v704 : BitVec 32 := Scalar.addi v39 v703
  let v705 : Index := Scalar.indexCast v704
  ![1032, v705.toNat]
def k0_off48 (d0 : Dev nD) : Fin 2 → Nat :=
  let c1032_i32_838 : BitVec 32 := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  let c1_i32_9 : BitVec 32 := 1#32
  let v14 : BitVec 32 := Scalar.andi v2 c1_i32_9
  let c256_i32_25 : BitVec 32 := 256#32
  let v40 : BitVec 32 := Scalar.muli v14 c256_i32_25
  let v41 : BitVec 32 := Scalar.addi v39 v40
  ![1032, v41.toNat]
def k0_dev25 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_18 : BitVec 32 := 1#32
  let v26 : BitVec 32 := Scalar.xori v2 c1_i32_18
  let c1_i32_836 : BitVec 32 := 1#32
  let v713 : BitVec 32 := Scalar.muli v26 c1_i32_836
  let v714 : BitVec 32 := Scalar.addi c0_i32_837 v713
  v714.toNat
def k0_off49 (d0 : Dev nD) : Fin 2 → Nat :=
  let c1376_864 : Index := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  let c1_i32_14 : BitVec 32 := 1#32
  let v20 : BitVec 32 := Scalar.andi v2 c1_i32_14
  let c256_i32_863 : BitVec 32 := 256#32
  let v733 : BitVec 32 := Scalar.muli v20 c256_i32_863
  let v734 : BitVec 32 := Scalar.addi v45 v733
  let v735 : Index := Scalar.indexCast v734
  ![1376, v735.toNat]
def k0_off50 (d0 : Dev nD) : Fin 2 → Nat :=
  let c1376_i32_877 : BitVec 32 := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  let c1_i32_14 : BitVec 32 := 1#32
  let v20 : BitVec 32 := Scalar.andi v2 c1_i32_14
  let c256_i32_29 : BitVec 32 := 256#32
  let v46 : BitVec 32 := Scalar.muli v20 c256_i32_29
  let v47 : BitVec 32 := Scalar.addi v45 v46
  ![1376, v47.toNat]
def k0_dev26 (d0 : Dev nD) : Nat :=
  let c0_i32_876 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v29 : BitVec 32 := Scalar.xori v2 c3_i32_21
  let c1_i32_875 : BitVec 32 := 1#32
  let v743 : BitVec 32 := Scalar.muli v29 c1_i32_875
  let v744 : BitVec 32 := Scalar.addi c0_i32_876 v743
  v744.toNat
def k0_off51 (d0 : Dev nD) : Fin 2 → Nat :=
  let c1712_903 : Index := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  let c1_i32_14 : BitVec 32 := 1#32
  let v20 : BitVec 32 := Scalar.andi v2 c1_i32_14
  let c256_i32_902 : BitVec 32 := 256#32
  let v763 : BitVec 32 := Scalar.muli v20 c256_i32_902
  let v764 : BitVec 32 := Scalar.addi v45 v763
  let v765 : Index := Scalar.indexCast v764
  ![1712, v765.toNat]
def k0_off52 (d0 : Dev nD) : Fin 2 → Nat :=
  let c1712_i32_916 : BitVec 32 := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  let c1_i32_14 : BitVec 32 := 1#32
  let v20 : BitVec 32 := Scalar.andi v2 c1_i32_14
  let c256_i32_29 : BitVec 32 := 256#32
  let v46 : BitVec 32 := Scalar.muli v20 c256_i32_29
  let v47 : BitVec 32 := Scalar.addi v45 v46
  ![1712, v47.toNat]
def k0_dev27 (d0 : Dev nD) : Nat :=
  let c0_i32_915 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_21 : BitVec 32 := 3#32
  let v29 : BitVec 32 := Scalar.xori v2 c3_i32_21
  let c1_i32_914 : BitVec 32 := 1#32
  let v773 : BitVec 32 := Scalar.muli v29 c1_i32_914
  let v774 : BitVec 32 := Scalar.addi c0_i32_915 v773
  v774.toNat
def k0_off53 (d0 : Dev nD) : Fin 2 → Nat :=
  let c0_i32_945 : BitVec 32 := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  ![0, v33.toNat]
def k0_dev28 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_943 : BitVec 32 := 1#32
  let v791 : BitVec 32 := Scalar.muli v22 c1_i32_943
  let v792 : BitVec 32 := Scalar.addi c0_i32_944 v791
  v792.toNat
def k0_off54 (d0 : Dev nD) : Fin 2 → Nat :=
  let c344_i32_974 : BitVec 32 := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  let c1_i32_2 : BitVec 32 := 1#32
  let v6 : BitVec 32 := Scalar.shrsi v2 c1_i32_2
  let c1_i32_3 : BitVec 32 := 1#32
  let v7 : BitVec 32 := Scalar.andi v6 c1_i32_3
  let c512_i32 : BitVec 32 := 512#32
  let v32 : BitVec 32 := Scalar.muli v7 c512_i32
  let v33 : BitVec 32 := Scalar.addi v31 v32
  ![344, v33.toNat]
def k0_dev29 (d0 : Dev nD) : Nat :=
  let c0_i32_973 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_972 : BitVec 32 := 1#32
  let v809 : BitVec 32 := Scalar.muli v22 c1_i32_972
  let v810 : BitVec 32 := Scalar.addi c0_i32_973 v809
  v810.toNat
def k0_off55 (d0 : Dev nD) : Fin 2 → Nat :=
  let c688_i32_1003 : BitVec 32 := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  ![688, v39.toNat]
def k0_dev30 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v25 : BitVec 32 := Scalar.xori v2 c4_i32_17
  let c1_i32_1001 : BitVec 32 := 1#32
  let v827 : BitVec 32 := Scalar.muli v25 c1_i32_1001
  let v828 : BitVec 32 := Scalar.addi c0_i32_1002 v827
  v828.toNat
def k0_off56 (d0 : Dev nD) : Fin 2 → Nat :=
  let c1032_i32_1032 : BitVec 32 := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  let c2_i32_7 : BitVec 32 := 2#32
  let v12 : BitVec 32 := Scalar.shrsi v2 c2_i32_7
  let c1_i32_8 : BitVec 32 := 1#32
  let v13 : BitVec 32 := Scalar.andi v12 c1_i32_8
  let c512_i32_24 : BitVec 32 := 512#32
  let v38 : BitVec 32 := Scalar.muli v13 c512_i32_24
  let v39 : BitVec 32 := Scalar.addi v37 v38
  ![1032, v39.toNat]
def k0_dev31 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_17 : BitVec 32 := 4#32
  let v25 : BitVec 32 := Scalar.xori v2 c4_i32_17
  let c1_i32_1030 : BitVec 32 := 1#32
  let v845 : BitVec 32 := Scalar.muli v25 c1_i32_1030
  let v846 : BitVec 32 := Scalar.addi c0_i32_1031 v845
  v846.toNat
def k0_off57 (d0 : Dev nD) : Fin 2 → Nat :=
  let c1376_i32_1061 : BitVec 32 := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  ![1376, v45.toNat]
def k0_dev32 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v28 : BitVec 32 := Scalar.xori v2 c1_i32_20
  let c1_i32_1059 : BitVec 32 := 1#32
  let v863 : BitVec 32 := Scalar.muli v28 c1_i32_1059
  let v864 : BitVec 32 := Scalar.addi c0_i32_1060 v863
  v864.toNat
def k0_off58 (d0 : Dev nD) : Fin 2 → Nat :=
  let c1712_i32_1090 : BitVec 32 := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  let c1_i32_12 : BitVec 32 := 1#32
  let v17 : BitVec 32 := Scalar.shrsi v2 c1_i32_12
  let v18 : BitVec 32 := Scalar.xori v2 v17
  let c1_i32_13 : BitVec 32 := 1#32
  let v19 : BitVec 32 := Scalar.andi v18 c1_i32_13
  let c512_i32_28 : BitVec 32 := 512#32
  let v44 : BitVec 32 := Scalar.muli v19 c512_i32_28
  let v45 : BitVec 32 := Scalar.addi v43 v44
  ![1712, v45.toNat]
def k0_dev33 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v28 : BitVec 32 := Scalar.xori v2 c1_i32_20
  let c1_i32_1088 : BitVec 32 := 1#32
  let v881 : BitVec 32 := Scalar.muli v28 c1_i32_1088
  let v882 : BitVec 32 := Scalar.addi c0_i32_1089 v881
  v882.toNat
def k0_off59 (d0 : Dev nD) : Fin 2 → Nat :=
  let c0_i32_1119 : BitVec 32 := 0#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  ![0, v31.toNat]
def k0_dev34 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v21 : BitVec 32 := Scalar.xori v2 c1_i32_15
  let c1_i32_1117 : BitVec 32 := 1#32
  let v899 : BitVec 32 := Scalar.muli v21 c1_i32_1117
  let v900 : BitVec 32 := Scalar.addi c0_i32_1118 v899
  v900.toNat
def k0_off60 (d0 : Dev nD) : Fin 2 → Nat :=
  let c344_i32_1148 : BitVec 32 := 344#32
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1024_i32 : BitVec 32 := 1024#32
  let v30 : BitVec 32 := Scalar.muli v5 c1024_i32
  let v31 : BitVec 32 := Scalar.addi c0_i32 v30
  ![344, v31.toNat]
def k0_dev35 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v21 : BitVec 32 := Scalar.xori v2 c1_i32_15
  let c1_i32_1146 : BitVec 32 := 1#32
  let v917 : BitVec 32 := Scalar.muli v21 c1_i32_1146
  let v918 : BitVec 32 := Scalar.addi c0_i32_1147 v917
  v918.toNat
def k0_off61 (d0 : Dev nD) : Fin 2 → Nat :=
  let c688_i32_1177 : BitVec 32 := 688#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  ![688, v37.toNat]
def k0_dev36 (d0 : Dev nD) : Nat :=
  let c0_i32_1176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v24 : BitVec 32 := Scalar.xori v2 c3_i32_16
  let c1_i32_1175 : BitVec 32 := 1#32
  let v935 : BitVec 32 := Scalar.muli v24 c1_i32_1175
  let v936 : BitVec 32 := Scalar.addi c0_i32_1176 v935
  v936.toNat
def k0_off62 (d0 : Dev nD) : Fin 2 → Nat :=
  let c1032_i32_1206 : BitVec 32 := 1032#32
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.shrsi v2 c1_i32_5
  let c1_i32_6 : BitVec 32 := 1#32
  let v11 : BitVec 32 := Scalar.andi v10 c1_i32_6
  let c1024_i32_22 : BitVec 32 := 1024#32
  let v36 : BitVec 32 := Scalar.muli v11 c1024_i32_22
  let v37 : BitVec 32 := Scalar.addi c0_i32_23 v36
  ![1032, v37.toNat]
def k0_dev37 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v24 : BitVec 32 := Scalar.xori v2 c3_i32_16
  let c1_i32_1204 : BitVec 32 := 1#32
  let v953 : BitVec 32 := Scalar.muli v24 c1_i32_1204
  let v954 : BitVec 32 := Scalar.addi c0_i32_1205 v953
  v954.toNat
def k0_off63 (d0 : Dev nD) : Fin 2 → Nat :=
  let c1376_i32_1235 : BitVec 32 := 1376#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  ![1376, v43.toNat]
def k0_dev38 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v27 : BitVec 32 := Scalar.xori v2 c4_i32_19
  let c1_i32_1233 : BitVec 32 := 1#32
  let v971 : BitVec 32 := Scalar.muli v27 c1_i32_1233
  let v972 : BitVec 32 := Scalar.addi c0_i32_1234 v971
  v972.toNat
def k0_off64 (d0 : Dev nD) : Fin 2 → Nat :=
  let c1712_i32_1264 : BitVec 32 := 1712#32
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_10 : BitVec 32 := 2#32
  let v15 : BitVec 32 := Scalar.shrsi v2 c2_i32_10
  let c1_i32_11 : BitVec 32 := 1#32
  let v16 : BitVec 32 := Scalar.andi v15 c1_i32_11
  let c1024_i32_26 : BitVec 32 := 1024#32
  let v42 : BitVec 32 := Scalar.muli v16 c1024_i32_26
  let v43 : BitVec 32 := Scalar.addi c0_i32_27 v42
  ![1712, v43.toNat]
def k0_dev39 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_19 : BitVec 32 := 4#32
  let v27 : BitVec 32 := Scalar.xori v2 c4_i32_19
  let c1_i32_1262 : BitVec 32 := 1#32
  let v989 : BitVec 32 := Scalar.muli v27 c1_i32_1262
  let v990 : BitVec 32 := Scalar.addi c0_i32_1263 v989
  v990.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Geo.lean ====
/-
# The geometry of the exchange

Device `c` of the eight holds a 2048 by 2048 array. Its rows are cut into six BANDS; bands `2 s` and `2 s + 1` make
STREAM `s`. In each of three steps a stream halves the columns a device is responsible for: at step `k` device `c`
exchanges with `peer b k c` (its number xored with a mask that depends on the stream and the step), keeps the half
of its columns at `off b (k+1) c` and gives away the other one. This file names the bands, offsets, peers, regions and
semaphores, and proves what the rest needs of them, all of it by evaluation over the finitely many cases.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.AllReduce

open Cert.KernelIdeal Cert.KernelIdeal.Gen
open Idealize.ShloMosaic
open Idealize.ShloMosaic.TcCoe

/-! ## Bands, masks, offsets -/

/-- The first row of a band. -/
@[reducible] def ro (b : Fin 6) : ℕ := ![0, 344, 688, 1032, 1376, 1712] b
/-- The number of rows of a band. -/
@[reducible] def rh (b : Fin 6) : ℕ := ![344, 344, 344, 344, 336, 336] b
/-- The number of columns a device is responsible for after `k` steps. -/
@[reducible] def W (k : Fin 4) : ℕ := ![2048, 1024, 512, 256] k
/-- The stream of a band. -/
def st (b : Fin 6) : Fin 3 := ![0, 0, 1, 1, 2, 2] b

/-- Which of the three masks stream `s` uses at step `k`. -/
def mi (s k : Fin 3) : Fin 3 := s + k
/-- Device `c` with its number xored with mask `m` (the masks are 1, 3 and 4). -/
def flip (m : Fin 3) (c : Dev nD) : Dev nD :=
  (![![1, 0, 3, 2, 5, 4, 7, 6], ![3, 2, 1, 0, 7, 6, 5, 4], ![4, 5, 6, 7, 0, 1, 2, 3]] : Fin 3 → Fin 8 → Dev nD) m c
/-- Whom device `c` exchanges stream `s` with at step `k`. -/
def peerS (s k : Fin 3) (c : Dev nD) : Dev nD := flip (mi s k) c
/-- Whom device `c` exchanges band `b` with at step `k`. -/
def peer (b : Fin 6) (k : Fin 3) (c : Dev nD) : Dev nD := peerS (st b) k c

/-- The three bits of a device's number the streams choose halves by. -/
def bit1 (c : Dev nD) : ℕ := c.val % 2
def bit2 (c : Dev nD) : ℕ := c.val / 2 % 2
def bit3 (c : Dev nD) : ℕ := (c.val % 2 + c.val / 2 % 2) % 2
def bit4 (c : Dev nD) : ℕ := c.val / 4 % 2
/-- Which half stream `s` keeps on device `c` at step `k` (0 the left one, 1 the right one). -/
def sel (s k : Fin 3) (c : Dev nD) : ℕ :=
  (![![bit3 c, bit2 c, bit4 c], ![bit2 c, bit4 c, bit1 c], ![bit4 c, bit3 c, bit1 c]] : Fin 3 → Fin 3 → ℕ) s k
/-- The first column stream `s` is responsible for on device `c` after `k` steps. -/
def offS (s : Fin 3) (k : Fin 4) (c : Dev nD) : ℕ :=
  ![0, 1024 * sel s 0 c, 1024 * sel s 0 c + 512 * sel s 1 c, 1024 * sel s 0 c + 512 * sel s 1 c + 256 * sel s 2 c] k
/-- The same for a band. -/
def off (b : Fin 6) (k : Fin 4) (c : Dev nD) : ℕ := offS (st b) k c

theorem flip_flip (m : Fin 3) (c : Dev nD) : flip m (flip m c) = c := by revert m c; decide
theorem peerS_peerS (s k : Fin 3) (c : Dev nD) : peerS s k (peerS s k c) = c := flip_flip _ _
theorem peer_peer (b : Fin 6) (k : Fin 3) (c : Dev nD) : peer b k (peer b k c) = c := peerS_peerS _ _ _
/-- A mask's exchange, as a permutation of the devices. -/
def flipE (m : Fin 3) : Dev nD ≃ Dev nD := ⟨flip m, flip m, flip_flip m, flip_flip m⟩
/-- A step's exchange, as a permutation of the devices. -/
def peerE (b : Fin 6) (k : Fin 3) : Dev nD ≃ Dev nD := ⟨peer b k, peer b k, peer_peer b k, peer_peer b k⟩

/-- Partners are responsible for the same columns before the step's halving. -/
theorem off_peer (b : Fin 6) (k : Fin 3) (c : Dev nD) : off b k.castSucc (peer b k c) = off b k.castSucc c := by
  revert b k c; decide +kernel
/-- After it one has the left half and the other the right half. -/
theorem off_cases (b : Fin 6) (k : Fin 3) (c : Dev nD) :
    (off b k.succ c = off b k.castSucc c ∧ off b k.succ (peer b k c) = off b k.castSucc c + W k.succ)
    ∨ (off b k.succ c = off b k.castSucc c + W k.succ ∧ off b k.succ (peer b k c) = off b k.castSucc c) := by
  revert b k c; decide +kernel
theorem W_half (k : Fin 3) : W k.castSucc = W k.succ + W k.succ := by revert k; decide

/-! ## Regions of the array -/

/-- The shape of a band's columns after `k` steps. -/
@[reducible] def Sh (b : Fin 6) (k : Fin 4) : Shape := ⟨2, ![rh b, W k]⟩
/-- Where they start on device `c`. -/
@[reducible] def offv (b : Fin 6) (k : Fin 4) (c : Dev nD) : Fin 2 → ℕ := ![ro b, off b k c]

theorem offv_inb (b : Fin 6) (k : Fin 4) (c : Dev nD) : ∀ a, offv b k c a + (Sh b k).size a ≤ S2048x2048.size a := by
  revert b k c; decide +kernel

/-- The rectangle of band `b`'s columns on device `c` after `k` steps. -/
abbrev rect (b : Fin 6) (k : Fin 4) (c : Dev nD) : Rect S2048x2048 := Rect.unit (s := S2048x2048) (offv b k c) (Sh b k).size (offv_inb b k c)
/-- Its set of indices. -/
def reg (b : Fin 6) (k : Fin 4) (c : Dev nD) : Finset S2048x2048.Idx := (rect b k c).set

theorem mem_reg {b : Fin 6} {k : Fin 4} {c : Dev nD} {i : S2048x2048.Idx} :
    i ∈ reg b k c ↔ (ro b ≤ (i 0).val ∧ (i 0).val < ro b + rh b) ∧ (off b k c ≤ (i 1).val ∧ (i 1).val < off b k c + W k) := by
  unfold reg
  rw [Rect.mem_set_unit, Fin.forall_fin_two]
  rfl

/-- Partners split what they were responsible for into two disjoint halves. -/
theorem reg_disjoint (b : Fin 6) (k : Fin 3) (c : Dev nD) : Disjoint (reg b k.succ c) (reg b k.succ (peer b k c)) := by
  rw [Finset.disjoint_left]
  intro i h h'
  rw [mem_reg] at h h'
  have := off_cases b k c
  omega
theorem reg_union (b : Fin 6) (k : Fin 3) (c : Dev nD) : reg b k.succ c ∪ reg b k.succ (peer b k c) = reg b k.castSucc c := by
  ext i
  rw [Finset.mem_union, mem_reg, mem_reg, mem_reg]
  have := off_cases b k c
  have := W_half k
  omega

/-- The stream an index's row belongs to. -/
def stI (i : S2048x2048.Idx) : Fin 3 := if (i 0).val < 688 then 0 else if (i 0).val < 1376 then 1 else 2
theorem stI_eq {b : Fin 6} {i : S2048x2048.Idx} (h : ro b ≤ (i 0).val ∧ (i 0).val < ro b + rh b) : stI i = st b := by
  unfold stI
  revert h
  generalize (i 0).val = n
  revert b
  intro b
  fin_cases b <;> simp [ro, rh, st] <;> intros <;> (repeat' split) <;> first | rfl | omega

/-- The device responsible in the end, in stream `s`, for the columns of 256-column block `q`. -/
def own (s : Fin 3) (q : Fin 8) : Dev nD := ((List.finRange 8).find? fun c : Fin 8 => offS s 3 c = 256 * q.val).getD 0
theorem own_off (s : Fin 3) (c : Dev nD) (q : Fin 8) (h : offS s 3 c = 256 * q.val) : own s q = c := by
  revert s c q; decide +kernel
theorem off_block (s : Fin 3) (c : Dev nD) : 256 * (offS s 3 c / 256) = offS s 3 c := by revert s c; decide +kernel
/-- The device responsible in the end for an index. -/
def ownI (i : S2048x2048.Idx) : Dev nD := own (stI i) ⟨(i 1).val / 256, by have := (i 1).isLt; show _ < 8; change (i 1).val < 2048 at this; omega⟩
theorem ownI_eq {b : Fin 6} {c : Dev nD} {i : S2048x2048.Idx} (h : i ∈ reg b 3 c) : ownI i = c := by
  rw [mem_reg] at h
  unfold ownI
  rw [stI_eq h.1]
  refine own_off _ _ _ ?_
  have h1 := off_block (st b) c
  have h2 := h.2
  unfold off at h2
  change _ ∧ _ < _ + 256 at h2
  show _ = 256 * ((i 1).val / 256)
  omega

/-! ## The landing slots -/

/-- The landing buffer of step `k`. -/
abbrev scrM : (k : Fin 3) → Memref sig .tc .vmem ⟨3, ![3, 688, W k.succ]⟩ .f32
  | 0 => Memref.whole cc0_scratch0
  | 1 => Memref.whole cc0_scratch1
  | 2 => Memref.whole cc0_scratch2
/-- Where band `b`'s slot starts in it. -/
@[reducible] def sloff (b : Fin 6) : Fin 3 → ℕ := ![![0, 0, 1, 1, 2, 2] b, ![0, 344, 0, 344, 0, 336] b, 0]
theorem sloff_inb (k : Fin 3) (b : Fin 6) : ∀ a, sloff b a + (⟨3, ![1, rh b, W k.succ]⟩ : Shape).size a ≤ (⟨3, ![3, 688, W k.succ]⟩ : Shape).size a := by
  revert b k; decide +kernel
abbrev slrect (k : Fin 3) (b : Fin 6) : Rect ⟨3, ![3, 688, W k.succ]⟩ :=
  Rect.unit (s := ⟨3, ![3, 688, W k.succ]⟩) (sloff b) (⟨3, ![1, rh b, W k.succ]⟩ : Shape).size (sloff_inb k b)
theorem slot_sq (k : Fin 3) (b : Fin 6) : (⟨3, ![1, rh b, W k.succ]⟩ : Shape).Squeezes (Sh b k.succ) := by
  revert b k; decide +kernel
/-- Band `b`'s slot of the landing buffer of step `k`. -/
abbrev slot (k : Fin 3) (b : Fin 6) : Memref sig .tc .vmem (Sh b k.succ) .f32 :=
  ((scrM k).slice (slrect k b) (fun _ => rfl)).squeeze (Sh b k.succ) (slot_sq k b)

/-! ## Memrefs, transfers and semaphores -/

/-- The staged operands and the result. -/
abbrev xM : Memref sig .tc .vmem S2048x256 .f32 := Memref.whole cc0_stg0_0
abbrev wM : Memref sig .tc .vmem S256x2048 .f32 := Memref.whole cc0_stg1_0
abbrev oM : Memref sig .tc .vmem S2048x2048 .f32 := Memref.whole cc0_stg2_0

/-- A transfer: of the reduce-scatter (`false`) or the all-gather (`true`), its step, its band. -/
abbrev Tr : Type := Bool × Fin 3 × Fin 6
/-- The position of a transfer in the order every device issues its transfers in. -/
def ord (t : Tr) : ℕ := (if t.1 then 18 + 6 * (2 - t.2.1.val) else 6 * t.2.1.val) + t.2.2.val
theorem ord_inj : ∀ t t' : Tr, ord t = ord t' → t = t' := by decide +kernel
theorem ord_lt : ∀ t : Tr, ord t < 36 := by decide +kernel
/-- The device at the other end of a transfer. -/
def peerT (t : Tr) (c : Dev nD) : Dev nD := peer t.2.2 t.2.1 c
theorem peerT_peerT (t : Tr) (c : Dev nD) : peerT t (peerT t c) = c := peer_peer _ _ _
def peerTE (t : Tr) : Dev nD ≃ Dev nD := ⟨peerT t, peerT t, peerT_peerT t, peerT_peerT t⟩

/-- The number of a transfer's semaphore: the sender's (`false`) or the receiver's (`true`). -/
def semN (r : Bool) (t : Tr) : ℕ := (if t.1 then 39 else 3) + (if r then 18 else 0) + 6 * t.2.1.val + t.2.2.val
theorem semN_lt : ∀ (r : Bool) (t : Tr), semN r t < 75 := by decide +kernel
/-- A transfer's semaphore. -/
def semT (r : Bool) (t : Tr) : DmaSem sig := ⟨semN r t, semN_lt r t⟩
theorem semN_inj : ∀ x y : Bool × Tr, semN x.1 x.2 = semN y.1 y.2 → x = y := by decide +kernel
/-- Which transfer a semaphore belongs to. -/
def dec (q : DmaSem sig) : Option (Bool × Tr) :=
  (Finset.univ.filter fun x : Bool × Tr => semN x.1 x.2 = q.val).toList.head?
theorem dec_semT (r : Bool) (t : Tr) : dec (semT r t) = some (r, t) := by
  unfold dec
  rw [show (Finset.univ.filter fun x : Bool × Tr => semN x.1 x.2 = (semT r t).val) = {(r, t)} from ?_, Finset.toList_singleton]; rfl
  ext x
  rw [Finset.mem_filter, Finset.mem_singleton]
  exact ⟨fun h => semN_inj x (r, t) h.2, fun h => ⟨Finset.mem_univ _, by rw [h]; rfl⟩⟩
theorem dec_stage (q : DmaSem sig) (h : q.val < 3) : dec q = none := by
  unfold dec
  rw [show (Finset.univ.filter fun x : Bool × Tr => semN x.1 x.2 = q.val) = ∅ from ?_, Finset.toList_empty]; rfl
  rw [Finset.filter_eq_empty_iff]
  intro x _ hx
  have : 3 ≤ semN x.1 x.2 := by unfold semN; split <;> omega
  omega

/-- The slice of the result a region names. -/
abbrev oSl (b : Fin 6) (k : Fin 4) (c : Dev nD) : Memref sig .tc .vmem (Sh b k) .f32 := oM.slice (rect b k c) (fun _ => rfl)
/-- The credit of a transfer of band `b` at step `k`. -/
def NT (k : Fin 3) (b : Fin 6) : ℕ := (slot k b).view.dmaCredit
theorem NT_pos (k : Fin 3) (b : Fin 6) : 0 < NT k b := View.dmaCredit_pos _ (by revert b k; decide +kernel)
/-- The same seen from the result's side. -/
theorem credit_oSl (k : Fin 3) (b : Fin 6) (c : Dev nD) : (oSl b k.succ c).view.dmaCredit = NT k b := by
  unfold NT
  fin_cases k <;> fin_cases b <;> rfl

/-- The semaphore of the entry barrier. -/
abbrev barS : Sem sig := (SemArray.scalar (sig.barrier 0 rfl) : Sems sig S_).sem

/-- What a device waits on: the barrier, and a send and a receive semaphore per transfer. -/
abbrev CI : Type := Unit ⊕ (Bool × Tr)
abbrev barCell (c : Dev nD) : GSem nD τ sig := ((c : Thread nD τ), .reg barS)
abbrev xCell (r : Bool) (t : Tr) (c : Dev nD) : GSem nD τ sig := ((c : Thread nD τ), .dma (semT r t))
abbrev osem : Bool × Tr → SemLoc sig := fun x => .dma (semT x.1 x.2)
abbrev csem : CI → SemLoc sig := Sum.elim (fun _ => .reg barS) osem
abbrev kcell (ck : Dev nD × CI) : GSem nD τ sig := ((ck.1 : Thread nD τ), csem ck.2)

end Cert.AllReduce

end
-- ==== Proof.Sched.lean ====
/-
# The protocol of the exchange

What the arrays hold at every moment (`acc`, `fin`), what each completed signal or transfer hands the device that
waits for it (`sched`), what a device still owes after its first `n` transfers (`owed`), and why no wait can block
for ever (`lv`: a device only waits for what lies below everything it still owes).

Everything is stated over the products `P c` of the devices' blocks, whatever these are.
-/
module

public import proofs.«01_k».proof.Proof.Geo

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a barrier cell are named by the masks; the other cells have one duty, `0`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- What a device's result array can hold. -/
abbrev OBuf (F : FTy → Type) : Type := (cc0_stg2_0 : Ref sig .tc).ty.Contents (Elt F)

/-- One step of the reduction: every element gets the partner's added. -/
def stepA (k : Fin 3) (A : Dev nD → OBuf F) (c : Dev nD) : OBuf F :=
  fun (i : S2048x2048.Idx) => FloatOps.addf (φ := .f32) (A c i) (A (peerS (stI i) k c) i)

/-- The partial sums after `k` steps, from the products `P`. -/
def acc (P : Dev nD → OBuf F) : Fin 4 → Dev nD → OBuf F
  | 0 => P
  | 1 => stepA 0 P
  | 2 => stepA 1 (stepA 0 P)
  | 3 => stepA 2 (stepA 1 (stepA 0 P))

theorem acc_succ (P : Dev nD → OBuf F) (k : Fin 3) : acc P k.succ = stepA k (acc P k.castSucc) := by fin_cases k <;> rfl

/-- The total: every element from the device responsible for it in the end. -/
def fin (P : Dev nD → OBuf F) : OBuf F := fun (i : S2048x2048.Idx) => acc P 3 (ownI i) i

theorem fin_eq (P : Dev nD → OBuf F) {b : Fin 6} {c : Dev nD} : ∀ i ∈ reg b 3 c, acc P 3 c i = fin P i := by
  intro i hi
  unfold fin
  rw [ownI_eq hi]

/-- The part of an array a region shows. -/
def blk (b : Fin 6) (k : Fin 4) (c : Dev nD) (f : OBuf F) : (Sh b k).Idx → Elt F .f32 :=
  fun j => f ((rect b k c).emb j)

/-! ## Ownership -/

/-- Device `c` owns the elements `R` of its result array, at the contents `f`. -/
def oAt (c : Dev nD) (R : Finset S2048x2048.Idx) (f : OBuf F) : sProp 𝕄 :=
  ((c : Thread nD τ).loc cc0_stg2_0) ↦[R]{fullShare} f
/-- The same at some contents. -/
def oAny (c : Dev nD) (R : Finset S2048x2048.Idx) : sProp 𝕄 := iprop(∃ f, oAt c R f)
/-- A landing slot, holding `v`. -/
def sAt (c : Dev nD) (k : Fin 3) (b : Fin 6) (v : (Sh b k.succ).Idx → Elt F .f32) : sProp 𝕄 :=
  owns (c : Thread nD τ) (slot k b) fullShare v
/-- The same at some contents. -/
def sAny (c : Dev nD) (k : Fin 3) (b : Fin 6) : sProp 𝕄 := iprop(∃ v, sAt c k b v)

instance oAt_storable (c : Dev nD) (R) (f) : BI.Storable (upEmb : UEmb _ 𝕄) (oAt (F := F) c R f) := by unfold oAt; infer_instance
instance oAny_storable (c : Dev nD) (R) : BI.Storable (upEmb : UEmb _ 𝕄) (oAny (F := F) c R) := by unfold oAny; infer_instance
instance sAt_storable (c : Dev nD) (k b) (v) : BI.Storable (upEmb : UEmb _ 𝕄) (sAt (F := F) c k b v) := by unfold sAt; infer_instance
instance sAny_storable (c : Dev nD) (k b) : BI.Storable (upEmb : UEmb _ 𝕄) (sAny (F := F) c k b) := by unfold sAny; infer_instance

theorem oAt_congr (c : Dev nD) (R : Finset S2048x2048.Idx) (f g : OBuf F) (h : ∀ i ∈ R, f i = g i) :
    (oAt c R f : sProp 𝕄) = oAt c R g := by
  unfold oAt; exact pointsTo_congr h
theorem oAt_union (c : Dev nD) {I J : Finset S2048x2048.Idx} (h : Disjoint I J) (f : OBuf F) :
    (oAt c (I ∪ J) f : sProp 𝕄) ⊣⊢ iprop(oAt c I f ∗ oAt c J f) := by
  unfold oAt; exact pointsTo_union h

/-! ## Payloads -/

section Pay
variable (P : Dev nD → OBuf F)

/-- The steps at which stream `s` exchanges along mask `m`, with the bands. -/
def kbOf (m : Fin 3) : Finset (Fin 3 × Fin 6) := Finset.univ.filter fun x => mi (st x.2) x.1 = m

/-- The signal along mask `m` hands `c` the landing slots of its partner along that mask. -/
def barPay (c : Dev nD) (m : Fin 3) : sProp 𝕄 := bigSep (kbOf m) fun x => sAny (flip m c) x.1 x.2

/-- What a transfer hands its receiver `c`. In the reduce-scatter: the slot with the partner's partial sums in it,
    and the part of the partner's array they came from. In the all-gather: the part of its own array, finished. -/
def recvPay (t : Tr) (c : Dev nD) : sProp 𝕄 :=
  if t.1 = false then
    iprop(sAt c t.2.1 t.2.2 (blk t.2.2 t.2.1.succ c (acc P t.2.1.castSucc (peerT t c)))
      ∗ oAny (peerT t c) (reg t.2.2 t.2.1.succ c))
  else oAt c (reg t.2.2 t.2.1.succ (peerT t c)) (fin P)

/-- What a transfer hands back to its sender `c`: in the all-gather, what it was sent from. -/
def sendPay (t : Tr) (c : Dev nD) : sProp 𝕄 :=
  if t.1 = false then iprop(emp) else oAt c (reg t.2.2 t.2.1.succ c) (fin P)

/-- The credit of a transfer. -/
abbrev NTt (t : Tr) : ℕ := NT t.2.1 t.2.2

/-- The protocol: one round per cell. -/
def sched : Rounds.Schedule (GSem nD τ sig) (Fin 3) 𝕄 where
  duties g r := if r = 0 ∧ g.1.2 = .tc then
      (match g.2 with
        | .reg s => if s = barS then Finset.univ else ∅
        | .dma q => if (dec q).isSome then {0} else ∅)
    else ∅
  unitless _ := False
  amount g _ _ := match g.2 with
    | .reg _ => 1
    | .dma q => match dec q with
      | some x => NTt x.2
      | none => 1
  payload g _ d := match g.2 with
    | .reg _ => barPay g.1.1 d
    | .dma q => match dec q with
      | some (true, t) => recvPay P t g.1.1
      | some (false, t) => sendPay P t g.1.1
      | none => iprop(emp)
  amount_pos g _ _ _ := by
    split
    · exact Nat.one_pos
    · split
      · exact NT_pos _ _
      · exact Nat.one_pos

instance barPay_storable (c : Dev nD) (m) : BI.Storable (upEmb : UEmb _ 𝕄) (barPay (F := F) c m) := by unfold barPay; infer_instance
instance recvPay_storable (t : Tr) (c : Dev nD) : BI.Storable (upEmb : UEmb _ 𝕄) (recvPay P t c) := by
  unfold recvPay; split <;> infer_instance
instance sendPay_storable (t : Tr) (c : Dev nD) : BI.Storable (upEmb : UEmb _ 𝕄) (sendPay P t c) := by
  unfold sendPay; split <;> infer_instance
instance sched_payload_storable (g : GSem nD τ sig) (r : ℕ) (d : Fin 3) :
    BI.Storable (upEmb : UEmb _ 𝕄) ((sched P).payload g r d) := by
  dsimp only [sched]
  repeat' split
  all_goals infer_instance

theorem duties_bar (c : Dev nD) : (sched P).duties (barCell c) 0 = Finset.univ := by
  dsimp only [sched]; rw [if_pos ⟨rfl, rfl⟩, if_pos rfl]
theorem duties_x (r : Bool) (t : Tr) (c : Dev nD) : (sched P).duties (xCell r t c) 0 = {0} := by
  dsimp only [sched]; rw [if_pos ⟨rfl, rfl⟩, dec_semT]; rfl
theorem duties_later (g : GSem nD τ sig) : ∀ r, 1 ≤ r → (sched P).duties g r = ∅ :=
  fun r hr => by dsimp only [sched]; rw [if_neg fun h => by omega]
theorem amount_bar (c : Dev nD) (d : Fin 3) : (sched P).amount (barCell c) 0 d = 1 := rfl
theorem amount_x (r : Bool) (t : Tr) (c : Dev nD) (d : Fin 3) : (sched P).amount (xCell r t c) 0 d = NTt t := by
  dsimp only [sched]; rw [dec_semT]
theorem expect_bar (c : Dev nD) : (sched P).expect (barCell c) 0 = 3 := by
  unfold Schedule.expect Schedule.amountOf
  rw [duties_bar, Finset.sum_congr rfl fun d _ => amount_bar P c d]; rfl
theorem expect_x (r : Bool) (t : Tr) (c : Dev nD) : (sched P).expect (xCell r t c) 0 = NTt t := by
  unfold Schedule.expect Schedule.amountOf; rw [duties_x, Finset.sum_singleton, amount_x]
theorem payload_bar (c : Dev nD) (d : Fin 3) : (sched P).payload (barCell c) 0 d = barPay c d := rfl
theorem payload_recv (t : Tr) (c : Dev nD) (d : Fin 3) : (sched P).payload (xCell true t c) 0 d = recvPay P t c := by
  dsimp only [sched]; rw [dec_semT]
theorem payload_send (t : Tr) (c : Dev nD) (d : Fin 3) : (sched P).payload (xCell false t c) 0 d = sendPay P t c := by
  dsimp only [sched]; rw [dec_semT]
theorem rest_bar (c : Dev nD) : bigSep ((sched P).duties (barCell c) 0 \ ∅) (fun d => (sched P).payload (barCell c) 0 d)
    = bigSep Finset.univ fun m => barPay (F := F) c m := by
  rw [Finset.sdiff_empty, duties_bar]; rfl
theorem rest_recv (t : Tr) (c : Dev nD) : bigSep ((sched P).duties (xCell true t c) 0 \ ∅) (fun d => (sched P).payload (xCell true t c) 0 d)
    = recvPay P t c := by
  rw [Finset.sdiff_empty, duties_x, bigSep_singleton, payload_recv]
theorem rest_send (t : Tr) (c : Dev nD) : bigSep ((sched P).duties (xCell false t c) 0 \ ∅) (fun d => (sched P).payload (xCell false t c) 0 d)
    = sendPay P t c := by
  rw [Finset.sdiff_empty, duties_x, bigSep_singleton, payload_send]

end Pay

/-! ## What is owed, and the levels -/

/-- What device `c` still owes its partners' receive cells after its first `n` transfers. -/
def owed (n : ℕ) (c : Dev nD) : CellTallies nD τ sig Unit :=
  ∑ t ∈ Finset.univ.filter (fun t : Tr => n ≤ ord t), tallyAt (xCell true t (peerT t c)) () (NTt t)

theorem owed_step (t : Tr) (c : Dev nD) :
    owed (ord t) c = owed (ord t + 1) c + tallyAt (xCell true t (peerT t c)) () (NTt t) := by
  unfold owed
  rw [show (Finset.univ.filter fun t' : Tr => ord t ≤ ord t') = insert t (Finset.univ.filter fun t' : Tr => ord t + 1 ≤ ord t') from ?_,
    Finset.sum_insert, add_comm]
  · rw [Finset.mem_filter]; omega
  · ext t'
    rw [Finset.mem_insert, Finset.mem_filter, Finset.mem_filter]
    have h := ord_inj t t'
    constructor
    · rintro ⟨h1, h2⟩
      by_cases e : ord t = ord t'
      · exact Or.inl (h e).symm
      · exact Or.inr ⟨h1, by omega⟩
    · rintro (rfl | h2)
      · exact ⟨Finset.mem_univ _, le_rfl⟩
      · exact ⟨h2.1, by omega⟩
theorem owed_end (c : Dev nD) : owed 36 c = 0 := by
  unfold owed
  rw [Finset.filter_false_of_mem fun t _ => by have := ord_lt t; omega, Finset.sum_empty]

/-- What device `c` owes at launch: its transfers, and a unit to the barrier of its partner along each mask. -/
def O₀ (c : Dev nD) : CellTallies nD τ sig Unit :=
  owed 0 c + tallyAt (barCell (flip 2 c)) () 1 + tallyAt (barCell (flip 1 c)) () 1 + tallyAt (barCell (flip 0 c)) () 1

def L (g : GSem nD τ sig) : Finset Unit := if g.1.2 = .tc then {()} else ∅
/-- The barrier at 1, the receive cells above it in the order of the transfers, everything else at 0. -/
def lv (g : GSem nD τ sig) (_ : Unit) : ℕ := match g.2 with
  | .reg _ => 1
  | .dma q => match dec q with
    | some (true, t) => 2 + ord t
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (t : Tr) (c : Dev nD) : lv (xCell true t c) () = 2 + ord t := by dsimp only [lv]; rw [dec_semT]
theorem lv_send (t : Tr) (c : Dev nD) : lv (xCell false t c) () = 0 := by dsimp only [lv]; rw [dec_semT]
theorem lv_stage (q : DmaSem sig) (h : q.val < 3) (c : Dev nD) : lv ((c : Thread nD τ), .dma q) () = 0 := by
  dsimp only [lv]; rw [dec_stage q h]

theorem owed_pos {n : ℕ} {c : Dev nD} {g : GSem nD τ sig} {u : Unit} (h : 0 < owed n c g u) :
    ∃ t : Tr, n ≤ ord t ∧ g = xCell true t (peerT t c) := by
  unfold owed at h
  rw [Finset.sum_apply, Finsupp.finset_sum_apply] at h
  obtain ⟨t, ht, hne⟩ := Finset.exists_ne_zero_of_sum_ne_zero (Nat.pos_iff_ne_zero.mp h)
  refine ⟨t, (Finset.mem_filter.mp ht).2, ?_⟩
  rw [tallyAt_apply] at hne
  by_contra hg
  exact hne (if_neg fun h' => hg h'.1)

theorem O₀_pos {c : Dev nD} {g : GSem nD τ sig} {u : Unit} (h : 0 < O₀ c g u) :
    (∃ t : Tr, g = xCell true t (peerT t c)) ∨ ∃ m : Fin 3, g = barCell (flip m c) := by
  unfold O₀ at h
  rw [Pi.add_apply, Finsupp.add_apply, Pi.add_apply, Finsupp.add_apply, Pi.add_apply, Finsupp.add_apply,
    tallyAt_apply, tallyAt_apply, tallyAt_apply] at h
  by_contra hn
  rw [not_or, not_exists, not_exists] at hn
  have h0 : owed 0 c g u = 0 := by
    by_contra h1
    obtain ⟨t, _, ht⟩ := owed_pos (Nat.pos_of_ne_zero h1)
    exact hn.1 t ht
  rw [if_neg (fun h' => hn.2 _ h'.1), if_neg (fun h' => hn.2 _ h'.1), if_neg (fun h' => hn.2 _ h'.1), h0] at h
  exact Nat.lt_irrefl 0 h

/-- Device `c` may wait for whatever lies below the transfers it still owes. -/
theorem mayWait_owed (c : Dev nD) (sm : SemLoc sig) (n : ℕ) (h : lv ((c : Thread nD τ), sm) () ≤ 1 + n) :
    (levAts L lv : sProp 𝕄) ⊢ MayWait (c : Thread nD τ) sm () (owed n c) :=
  MayOwe.of_cut (L := L) (lev := lv) (1 + n) (fun p hp => by rw [Finset.mem_singleton.mp hp, L_tc]; exact Finset.mem_singleton_self _)
    (fun g u hg => by obtain ⟨t, _, rfl⟩ := owed_pos hg; exact Finset.mem_singleton_self _)
    (fun p hp => by rw [Finset.mem_singleton.mp hp]; exact h)
    (fun g u hg => by obtain ⟨t, ht, rfl⟩ := owed_pos hg; rw [lv_recv]; omega)

/-- It may wait for a staging transfer before it has paid anything, and after it has paid everything. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨m, rfl⟩ <;> exact Finset.mem_singleton_self _)
      (fun p hp => by rw [Finset.mem_singleton.mp hp, lv_stage q hq])
      (fun g u hg => by
        rcases O₀_pos hg with ⟨t, rfl⟩ | ⟨m, rfl⟩
        · rw [lv_recv]; omega
        · rw [lv_bar]; decide)
  · rw [MayWait_zero]; iintro -; iempintro

/-! ## The state of a run -/

section State
variable (P : Dev nD → OBuf F) (K : Dev nD × CI → ℕ)

/-- The facts that stay true: the cells' invariants, that every cell has reached its round, the levels. -/
def pers : sProp 𝕄 :=
  iprop((bigSep Finset.univ fun ck : Dev nD × CI => iprop(cellInv ER (sched P) (K ck) (kcell ck) ∗ reached ER (kcell ck) 0)) ∗ levAts L lv)
instance pers_persistent : BI.Persistent (pers P K) := by unfold pers; infer_instance

/-- What device `c` holds of transfer `t` at the moments of its life: `0` ready to be sent, `1` on its way, `2` its
    sending waited for, `3` its receiving too. -/
def Gh (c : Dev nD) (t : Tr) : ℕ → sProp 𝕄
  | 0 => iprop(atPos ER (xCell false t c) 0 ∅ 0 ∗ atPos ER (xCell true t c) 0 ∅ 0
      ∗ dutyTok ER (xCell false t c) 0 0 ∗ dutyTok ER (xCell true t (peerT t c)) 0 0
      ∗ cred (tallyAt (xCell true t c) () (NTt t))
      ∗ (if t.1 = false then sAny (peerT t c) t.2.1 t.2.2 else iprop(emp)))
  | 1 => iprop(atPos ER (xCell false t c) 0 ∅ 0 ∗ atPos ER (xCell true t c) 0 ∅ 0
      ∗ cred (tallyAt (xCell false t c) () (NTt t)) ∗ cred (tallyAt (xCell true t c) () (NTt t)))
  | 2 => iprop(semVal (xCell false t c) 0 ∗ atPos ER (xCell true t c) 0 ∅ 0 ∗ cred (tallyAt (xCell true t c) () (NTt t)))
  | _ => iprop(semVal (xCell false t c) 0 ∗ semVal (xCell true t c) 0)

/-- The moment transfer `t` is at when the first `s` have been sent, the first `w` waited for, and of number `w`
    the sending waited for (`x = 1`) or not (`x = 0`). -/
def gh (s w x : ℕ) (t : Tr) : ℕ := if ord t < w then 3 else if s ≤ ord t then 0 else if ord t = w then 1 + x else 1

/-- The moments of a band: at first (`z0`), its part to send computed (`z1`), that sent (`z2`); the transfer of step
    `k` on its way, its part to keep computed (`A k`), landed (`B k`), added (`C k`); in the all-gather the transfer
    of step `k` on its way (`Fl k`), its source back (`E k`), landed (`D k`). -/
inductive RC where
  | z0 | z1 | z2
  | A (k : Fin 3) | B (k : Fin 3) | C (k : Fin 3)
  | Fl (k : Fin 3) | E (k : Fin 3) | D (k : Fin 3)
deriving DecidableEq

/-- The parts of the partners' arrays that have come with the first `n` steps. -/
def held (c : Dev nD) (b : Fin 6) (n : ℕ) : sProp 𝕄 :=
  bigSep (Finset.univ.filter fun k : Fin 3 => k.val < n) fun k => oAny (peer b k c) (reg b k.succ c)
/-- The landing slots that have come back with the first `n` steps. -/
def slots (c : Dev nD) (b : Fin 6) (n : ℕ) : sProp 𝕄 :=
  bigSep (Finset.univ.filter fun k : Fin 3 => k.val < n) fun k => sAny c k b

/-- What device `c` holds of band `b` at a moment. -/
def Rg (c : Dev nD) (b : Fin 6) : RC → sProp 𝕄
  | .z0 => iprop(oAny c (reg b 1 c) ∗ oAny c (reg b 1 (peer b 0 c)))
  | .z1 => iprop(oAny c (reg b 1 c) ∗ oAt c (reg b 1 (peer b 0 c)) (P c))
  | .z2 => oAny c (reg b 1 c)
  | .A k => iprop(oAt c (reg b k.succ c) (acc P k.castSucc c) ∗ held c b k.val ∗ slots c b k.val)
  | .B k => iprop(oAt c (reg b k.succ c) (acc P k.castSucc c) ∗ sAt c k b (blk b k.succ c (acc P k.castSucc (peer b k c)))
      ∗ held c b (k.val + 1) ∗ slots c b k.val)
  | .C k => iprop(oAt c (reg b k.succ c) (acc P k.succ c) ∗ held c b (k.val + 1) ∗ slots c b (k.val + 1))
  | .Fl k => iprop(held c b k.val ∗ slots c b 3)
  | .E k => iprop(oAt c (reg b k.succ c) (fin P) ∗ held c b k.val ∗ slots c b 3)
  | .D k => iprop(oAt c (reg b k.castSucc c) (fin P) ∗ held c b k.val ∗ slots c b 3)

/-- The state of device `c`: the lasting facts, what it owes, the transfers, the bands, and a frame. -/
def St (c : Dev nD) (s w x : ℕ) (r : Fin 6 → RC) (X : sProp 𝕄) : sProp 𝕄 :=
  iprop(pers P K ∗ (∃ Wt, owes (c : Thread nD τ) (owed s c) Wt)
    ∗ bigSep Finset.univ (fun t : Tr => Gh c t (gh s w x t))
    ∗ bigSep Finset.univ (fun b : Fin 6 => Rg P c b (r b)) ∗ X)

end State

end Cert.AllReduce

end
-- ==== Proof.Steps.lean ====
/-
# The steps of a run

One rule for each thing a device does once the barrier is behind it: wait for the sending half of a transfer, wait for
its receiving half, add what has landed, start a transfer. Each says how the state of `Sched.lean` moves.
-/
module

public import proofs.«01_k».proof.Proof.Sched

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (P : Dev nD → OBuf F) (K : Dev nD × CI → ℕ)

/-! ## Opening the state at one transfer -/

/-- One member of a family taken out, with the way to put a changed family back. -/
theorem bigSep_upd {I : Type} [Fintype I] [DecidableEq I] (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (Φ := Φ) (Ψ := Ψ) fun j hj => h j (Finset.ne_of_mem_erase hj)]
  iintro ⟨H, HR⟩
  isplitl [H]; · iexact H
  iintro H
  isplitl [H] <;> iassumption

/-- The state with transfer `t` and its band taken out, and the way to the next state. -/
theorem St_open (c : Dev nD) (t : Tr) {s w x s' w' x' : ℕ} {r r' : Fin 6 → RC} {X : sProp 𝕄}
    (hg : ∀ t', t' ≠ t → gh s w x t' = gh s' w' x' t') (hr : ∀ b, b ≠ t.2.2 → r b = r' b) :
    St P K c s w x r X ⊢ iprop(pers P K ∗ (∃ Wt, owes (c : Thread nD τ) (owed s c) Wt)
      ∗ Gh c t (gh s w x t) ∗ Rg P c t.2.2 (r t.2.2)
      ∗ (((∃ Wt, owes (c : Thread nD τ) (owed s' c) Wt) ∗ Gh c t (gh s' w' x' t) ∗ Rg P c t.2.2 (r' t.2.2)) -∗ St P K c s' w' x' r' X)) := by
  unfold St
  iintro ⟨#Hp, HO, HT, HB, HX⟩
  ihave HT' := (bigSep_upd (fun t : Tr => Gh c t (gh s w x t)) (fun t : Tr => Gh c t (gh s' w' x' t)) t
    (fun t' h => by rw [hg t' h])) $$ HT
  ihave HB' := (bigSep_upd (fun b : Fin 6 => Rg P c b (r b)) (fun b : Fin 6 => Rg P c b (r' b)) t.2.2
    (fun b h => by rw [hr b h])) $$ HB
  icases HT' with ⟨Ht, HT⟩
  icases HB' with ⟨Hb, HB⟩
  isplitr; · iexact Hp
  isplitl [HO]; · iexact HO
  isplitl [Ht]; · iexact Ht
  isplitl [Hb]; · iexact Hb
  iintro ⟨HO, Ht, Hb⟩
  isplitr; · iexact Hp
  isplitl [HO]; · iexact HO
  isplitl [Ht HT]; · iapply HT; iexact Ht
  isplitl [Hb HB]; · iapply HB; iexact Hb
  iexact HX

/-- A cell's invariant among the lasting facts. -/
theorem pers_cell (ck : Dev nD × CI) : pers P K ⊢ iprop(cellInv ER (sched P) (K ck) (kcell ck) ∗ reached ER (kcell ck) 0) := by
  unfold pers
  rw [bigSep_univ_at _ ck]
  iintro ⟨⟨H, -⟩, -⟩
  iexact H
theorem pers_lev : pers P K ⊢ levAts L lv := by
  unfold pers
  iintro ⟨-, H⟩
  iexact H

/-! ## Waiting -/

theorem gh_at0 (s w : ℕ) (t : Tr) (hw : ord t = w) (hs : w < s) : gh s w 0 t = 1 := by
  unfold gh; rw [if_neg (by omega), if_neg (by omega), if_pos hw]
theorem gh_at1 (s w : ℕ) (t : Tr) (hw : ord t = w) (hs : w < s) : gh s w 1 t = 2 := by
  unfold gh; rw [if_neg (by omega), if_neg (by omega), if_pos hw]
theorem gh_done (s w : ℕ) (t : Tr) (hw : ord t = w) : gh s (w + 1) 0 t = 3 := by
  unfold gh; rw [if_pos (by omega)]
theorem gh_send (s w : ℕ) (t : Tr) (hw : ord t = s) (hs : w ≤ s) : gh s w 0 t = 0 := by
  unfold gh; rw [if_neg (by omega), if_pos (by omega)]
theorem gh_sent (s w : ℕ) (t : Tr) (hw : ord t = s) (hs : w ≤ s) : gh (s + 1) w 0 t = 1 := by
  unfold gh; rw [if_neg (by omega), if_neg (by omega)]; split <;> rfl
theorem ord_ne {t t' : Tr} {w : ℕ} (hw : ord t = w) (h : t' ≠ t) : ord t' ≠ w := fun e => h (ord_inj t' t (e.trans hw.symm))

/-- The wait for a transfer to have left: the source comes back, if it does. -/
theorem step_waitS {α : Type} {Q : α → sProp 𝕄} {k : PUnit → Prog (TpuEff nD τ sig (Elt F) Λ₀ .tc) α} (c : Dev nD) (t : Tr) {s w : ℕ} {r r' : Fin 6 → RC} {X : sProp 𝕄} {q : DmaSem sig}
    {sp sp' : Space} {sh sh' : Shape} {e e' : EltTy} {src : Memref sig .tc sp sh e} {dst : Memref sig .tc sp' sh' e'} {h₁ h₂}
    (hq : q = semT false t) (hN : dst.view.dmaCredit = NTt t) (hw : ord t = w) (hs : w < s)
    (hr : ∀ b, b ≠ t.2.2 → r b = r' b) (hR : iprop(sendPay P t c ∗ Rg P c t.2.2 (r t.2.2)) ⊢ Rg P c t.2.2 (r' t.2.2))
    (hk : St P K c s w 1 r' X ⊢ wpc c (k ⟨⟩) Q) :
    St P K c s w 0 r X ⊢ wpc c (.op (.waitDma2 q src dst h₁ h₂) k) Q := by
  subst hq
  refine (St_open P K c t (s' := s) (w' := w) (x' := 1) (r' := r') (fun t' h => by
    have := ord_ne hw h
    unfold gh; rw [if_neg this, if_neg this]) hr).trans ?_
  rw [gh_at0 s w t hw hs, gh_at1 s w t hw hs]
  simp only [Gh]
  iintro ⟨#Hp, ⟨%Wt, HO⟩, ⟨HaS, HaR, HcS, HcR⟩, Hb, HSt⟩
  ihave Hc := (pers_cell P K (c, .inr (false, t))) $$ Hp
  icases Hc with ⟨#HI, #Hr⟩
  iapply (Rounds.wp_wait_rest_token 𝒱₀ ER (sched P) (c : Thread nD τ) none (κ := K (c, .inr (false, t)))
      (wpE_waitDma2_eq 𝒱₀ (c : Thread nD τ) none Set.univ) (Set.mem_univ _) () (O := owed s c) (W := Wt) (R := 0) (m := 0) (T := ∅)
      (by rw [Nat.zero_add, expect_x, hN])) $$ [HcS HO HaS]
  · isplitr; · iexact HI
    isplitl [HcS]; · rw [hN]; iexact HcS
    isplitl [HO]; · iexact HO
    isplitr
    · iapply (mayWait_owed c (.dma (semT false t)) s (by rw [lv_send]; omega))
      iapply (pers_lev P K); iexact Hp
    iexact HaS
  iintro ⟨HO, HaS, -, Hpay⟩
  imod (Rounds.cell_close ER (sched P) (Set.mem_univ (K (c, .inr (false, t)))) (fun h => h) (R := 0 + 1) (duties_later P (xCell false t c))) $$ [HaS] with Hz
  · isplitr; · iexact HI
    iexact HaS
  iapply hk
  iapply HSt
  isplitl [HO]; · iexists _; iexact HO
  isplitl [Hz HaR HcR]
  · isplitl [Hz]; · iexact Hz
    isplitl [HaR] <;> iassumption
  iapply hR
  isplitl [Hpay]; · iapply (Entails.of_eq (rest_send P t c)); iexact Hpay
  iexact Hb

/-- The wait for a transfer to have arrived: what it brought comes with it. -/
theorem step_waitR {α : Type} {Q : α → sProp 𝕄} {k : PUnit → Prog (TpuEff nD τ sig (Elt F) Λ₀ .tc) α} (c : Dev nD) (t : Tr) {s w : ℕ} {r r' : Fin 6 → RC} {X : sProp 𝕄} {q : DmaSem sig}
    {sp sp' : Space} {sh sh' : Shape} {e e' : EltTy} {src : Memref sig .tc sp sh e} {dst : Memref sig .tc sp' sh' e'} {h₁ h₂}
    (hq : q = semT true t) (hN : dst.view.dmaCredit = NTt t) (hw : ord t = w) (hs : w < s)
    (hr : ∀ b, b ≠ t.2.2 → r b = r' b) (hR : iprop(recvPay P t c ∗ Rg P c t.2.2 (r t.2.2)) ⊢ Rg P c t.2.2 (r' t.2.2))
    (hk : St P K c s (w + 1) 0 r' X ⊢ wpc c (k ⟨⟩) Q) :
    St P K c s w 1 r X ⊢ wpc c (.op (.waitDma2 q src dst h₁ h₂) k) Q := by
  subst hq
  refine (St_open P K c t (s' := s) (w' := w + 1) (x' := 0) (r' := r') (fun t' h => by
    have := ord_ne hw h
    unfold gh; repeat' split
    all_goals omega) hr).trans ?_
  rw [gh_at1 s w t hw hs, gh_done s w t hw]
  simp only [Gh]
  iintro ⟨#Hp, ⟨%Wt, HO⟩, ⟨HzS, HaR, HcR⟩, Hb, HSt⟩
  ihave Hc := (pers_cell P K (c, .inr (true, t))) $$ Hp
  icases Hc with ⟨#HI, #Hr⟩
  iapply (Rounds.wp_wait_rest_token 𝒱₀ ER (sched P) (c : Thread nD τ) none (κ := K (c, .inr (true, t)))
      (wpE_waitDma2_eq 𝒱₀ (c : Thread nD τ) none Set.univ) (Set.mem_univ _) () (O := owed s c) (W := Wt) (R := 0) (m := 0) (T := ∅)
      (by rw [Nat.zero_add, expect_x, hN])) $$ [HcR HO HaR]
  · isplitr; · iexact HI
    isplitl [HcR]; · rw [hN]; iexact HcR
    isplitl [HO]; · iexact HO
    isplitr
    · iapply (mayWait_owed c (.dma (semT true t)) s (by rw [lv_recv]; omega))
      iapply (pers_lev P K); iexact Hp
    iexact HaR
  iintro ⟨HO, HaR, -, Hpay⟩
  imod (Rounds.cell_close ER (sched P) (Set.mem_univ (K (c, .inr (true, t)))) (fun h => h) (R := 0 + 1) (duties_later P (xCell true t c))) $$ [HaR] with Hz
  · isplitr; · iexact HI
    iexact HaR
  iapply hk
  iapply HSt
  isplitl [HO]; · iexists _; iexact HO
  isplitl [Hz HzS]
  · isplitl [HzS] <;> iassumption
  iapply hR
  isplitl [Hpay]; · iapply (Entails.of_eq (rest_recv P t c)); iexact Hpay
  iexact Hb

/-! ## Sending -/

theorem set_oSl (b : Fin 6) (k : Fin 4) (c : Dev nD) : (oSl b k c).view.set = reg b k c := View.set_slice_whole _ _
theorem read_oSl (b : Fin 6) (k : Fin 4) (c : Dev nD) (f : OBuf F) : (oSl b k c).view.read (Elt F) f = blk b k c f := rfl

/-- A transfer of the reduce-scatter: the half not kept goes to the partner's slot. -/
theorem step_sendRS {α : Type} {Q : α → sProp 𝕄} {kk : PUnit → Prog (TpuEff nD τ sig (Elt F) Λ₀ .tc) α} (c : Dev nD)
    (k : Fin 3) (b : Fin 6) {s w : ℕ} {r r' : Fin 6 → RC} {X : sProp 𝕄} {qs qr : DmaSem sig} {p : Dev nD}
    {src : Memref sig .tc .vmem (Sh b k.succ) .f32} {dst : Memref sig (Dev.tc p : Thread nD τ).2.kind .vmem (Sh b k.succ) .f32} {hsc h₁ h₂ h₃}
    (hp : p = peer b k c) (hqs : qs = semT false (false, k, b)) (hqr : qr = semT true (false, k, b))
    (hsrc : src = oSl b k.succ (peer b k c)) (hdst : dst = slot k b) (hs : ord (false, k, b) = s) (hw : w ≤ s)
    (hr : ∀ b', b' ≠ b → r b' = r' b')
    (hR : Rg P c b (r b) ⊢ iprop(oAt c (reg b k.succ (peer b k c)) (acc P k.castSucc c) ∗ Rg P c b (r' b)))
    (hk : St P K c (s + 1) w 0 r' X ⊢ wpc c (kk ⟨⟩) Q) :
    St P K c s w 0 r X ⊢ wpc c (.op (.enqueueDma src (.remote (Dev.tc p : Thread nD τ) dst (.dma qs) hsc) (.dma qr) h₁ h₂ h₃) kk) Q := by
  subst hp hqs hqr hsrc hdst
  have hO : owed s c = owed (s + 1) c + tallyAt (xCell true (false, k, b) (peer b k c)) () (NT k b) := by
    subst hs; exact owed_step (false, k, b) c
  refine (St_open P K c (false, k, b) (s' := s + 1) (w' := w) (x' := 0) (r' := r') (fun t' h => by
    have := ord_ne hs h
    unfold gh; repeat' split
    all_goals omega) hr).trans ?_
  rw [gh_send s w _ hs hw, gh_sent s w _ hs hw]
  simp only [Gh]
  rw [if_pos trivial]
  unfold oAt at hR
  unfold sAny sAt owns
  iintro ⟨#Hp, ⟨%Wt, HO⟩, ⟨HaS, HaR, HtS, HtR, HcR, ⟨%v, %fd, %hv, Hd⟩⟩, Hb, HSt⟩
  ihave Hb' := hR $$ Hb
  icases Hb' with ⟨Hs, Hb⟩
  ihave Hc := (pers_cell P K (c, .inr (false, (false, k, b)))) $$ Hp
  icases Hc with ⟨#HI, #Hr⟩
  ihave Hc' := (pers_cell P K (peer b k c, .inr (true, (false, k, b)))) $$ Hp
  icases Hc' with ⟨#HI', #Hr'⟩
  iapply (Rounds.wp_send_landing_pointsTo 𝒱₀ ER (sched P) (c : Thread nD τ) none
    (κ₁ := K (c, .inr (false, (false, k, b)))) (κ₂ := K (peer b k c, .inr (true, (false, k, b))))
    (r₁ := 0) (r₂ := 0) (d₁ := 0) (d₂ := 0) (fs := acc P k.castSucc c) (fd := fd) (q := fullShare)
    (by rw [duties_x]; exact Finset.mem_singleton_self _) (by rw [duties_x]; exact Finset.mem_singleton_self _)
    () () (NT k b) rfl (amount_x P false (false, k, b) c 0) (amount_x P true (false, k, b) (peer b k c) 0) (owed (s + 1) c)
    hO (W := Wt)
    (by rw [payload_send]; exact BI.Entails.refl _)
    (by
      rw [payload_recv]
      unfold recvPay
      rw [if_pos rfl]
      show _ ⊢ iprop(sAt (peer b k c) k b (blk b k.succ (peer b k c) (acc P k.castSucc (peer b k (peer b k c))))
        ∗ oAny (peer b k (peer b k c)) (reg b k.succ (peer b k c)))
      rw [peer_peer, set_oSl]
      unfold sAt owns oAny oAt
      iintro ⟨H1, H2⟩
      isplitl [H1]
      · iexists (slot k b).view.write (Elt F) fd (blk b k.succ (peer b k c) (acc P k.castSucc c)) Finset.univ
        isplitr
        · ipureintro; exact View.read_write_univ _ _
        iexact H1
      iexists _
      iexact H2)) $$ [HO HtS HtR Hs Hd]
  · isplitr; · iexact HI
    isplitr; · iexact HI'
    isplitl [Hs]; · rw [set_oSl]; iexact Hs
    isplitl [Hd]; · iexact Hd
    isplitl [HO]; · iexact HO
    isplitl [HtS]; · iexact HtS
    isplitr; · iexact Hr
    isplitl [HtR]; · iexact HtR
    iexact Hr'
  iintro ⟨HcS, HO⟩
  iapply hk
  iapply HSt
  isplitl [HO]; · iexists _; iexact HO
  isplitl [HaS HaR HcS HcR]
  · isplitl [HaS]; · iexact HaS
    isplitl [HaR]; · iexact HaR
    isplitl [HcS] <;> iassumption
  iexact Hb

/-- A transfer of the all-gather: what is finished goes to the same place in the partner's array. -/
theorem step_sendAG {α : Type} {Q : α → sProp 𝕄} {kk : PUnit → Prog (TpuEff nD τ sig (Elt F) Λ₀ .tc) α} (c : Dev nD)
    (k : Fin 3) (b : Fin 6) {s w : ℕ} {r r' : Fin 6 → RC} {X : sProp 𝕄} {qs qr : DmaSem sig} {p : Dev nD}
    {src : Memref sig .tc .vmem (Sh b k.succ) .f32} {dst : Memref sig (Dev.tc p : Thread nD τ).2.kind .vmem (Sh b k.succ) .f32} {hsc h₁ h₂ h₃}
    (hp : p = peer b k c) (hqs : qs = semT false (true, k, b)) (hqr : qr = semT true (true, k, b))
    (hsrc : src = oSl b k.succ c) (hdst : dst = oSl b k.succ c) (hs : ord (true, k, b) = s) (hw : w ≤ s)
    (hr : ∀ b', b' ≠ b → r b' = r' b')
    (hR : Rg P c b (r b) ⊢ iprop((oAt c (reg b k.succ c) (fin P) ∗ oAny (peer b k c) (reg b k.succ c)) ∗ Rg P c b (r' b)))
    (hk : St P K c (s + 1) w 0 r' X ⊢ wpc c (kk ⟨⟩) Q) :
    St P K c s w 0 r X ⊢ wpc c (.op (.enqueueDma src (.remote (Dev.tc p : Thread nD τ) dst (.dma qs) hsc) (.dma qr) h₁ h₂ h₃) kk) Q := by
  subst hp hqs hqr hsrc hdst
  have hO : owed s c = owed (s + 1) c + tallyAt (xCell true (true, k, b) (peer b k c)) () (NT k b) := by
    subst hs; exact owed_step (true, k, b) c
  refine (St_open P K c (true, k, b) (s' := s + 1) (w' := w) (x' := 0) (r' := r') (fun t' h => by
    have := ord_ne hs h
    unfold gh; repeat' split
    all_goals omega) hr).trans ?_
  rw [gh_send s w _ hs hw, gh_sent s w _ hs hw]
  simp only [Gh]
  rw [if_neg (by simp)]
  iintro ⟨#Hp, ⟨%Wt, HO⟩, ⟨HaS, HaR, HtS, HtR, HcR, -⟩, Hb, HSt⟩
  ihave Hb' := hR $$ Hb
  unfold oAny oAt
  icases Hb' with ⟨⟨Hs, ⟨%fd, Hd⟩⟩, Hb⟩
  ihave Hc := (pers_cell P K (c, .inr (false, (true, k, b)))) $$ Hp
  icases Hc with ⟨#HI, #Hr⟩
  ihave Hc' := (pers_cell P K (peer b k c, .inr (true, (true, k, b)))) $$ Hp
  icases Hc' with ⟨#HI', #Hr'⟩
  iapply (Rounds.wp_send_pointsTo 𝒱₀ ER (sched P) (c : Thread nD τ) none
    (κ₁ := K (c, .inr (false, (true, k, b)))) (κ₂ := K (peer b k c, .inr (true, (true, k, b))))
    (r₁ := 0) (r₂ := 0) (d₁ := 0) (d₂ := 0) (fs := fin P) (fd := fd) (q := fullShare)
    (by rw [duties_x]; exact Finset.mem_singleton_self _) (by rw [duties_x]; exact Finset.mem_singleton_self _)
    () () (NT k b) (by exact credit_oSl k b c) (amount_x P false (true, k, b) c 0) (amount_x P true (true, k, b) (peer b k c) 0) (owed (s + 1) c)
    hO (W := Wt)
    (by
      rw [payload_send, set_oSl]
      unfold sendPay
      rw [if_neg (by simp)]
      exact BI.Entails.refl _)
    (by
      rw [payload_recv]
      unfold recvPay
      rw [if_neg (by simp)]
      show _ ⊢ oAt (peer b k c) (reg b k.succ (peer b k (peer b k c))) (fin P)
      rw [peer_peer, View.write_read_eq_piecewise, View.setOn_univ, set_oSl]
      unfold oAt
      exact Entails.of_eq (pointsTo_congr fun i hi => Finset.piecewise_eq_of_mem _ _ _ hi))) $$ [HO HtS HtR Hs Hd]
  · isplitr; · iexact HI
    isplitr; · iexact HI'
    isplitl [Hs]; · rw [set_oSl]; iexact Hs
    isplitl [Hd]; · rw [set_oSl]; iexact Hd
    isplitl [HO]; · iexact HO
    isplitl [HtS]; · iexact HtS
    isplitr; · iexact Hr
    isplitl [HtR]; · iexact HtR
    iexact Hr'
  iintro ⟨HcS, HO⟩
  iapply hk
  iapply HSt
  isplitl [HO]; · iexists _; iexact HO
  isplitl [HaS HaR HcS HcR]
  · isplitl [HaS]; · iexact HaS
    isplitl [HaR]; · iexact HaR
    isplitl [HcS] <;> iassumption
  iexact Hb

end Cert.AllReduce

end
-- ==== Proof.Groups.lean ====
/-
# One transfer's share of the run

What a device does between two of its transfers, as steps of the state `St`: adding what has landed, and how the
parts of a band go over into one another when a wait returns or a transfer starts. From these the four kinds of
groups the run is made of: wait for a transfer, use what it brought, start the transfer six places later.
-/
module

public import proofs.«01_k».proof.Proof.Steps
public import Idealize.ShloMosaic.Lib.Pipeline.Value

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → OBuf F) (K : Dev nD × CI → ℕ)

/-! ## Loads and stores of the result and of a slot -/

/-- A load of a rectangle of the result. -/
theorem load_o {α : Type} {Q : α → sProp 𝕄} (c : Dev nD) (r : Rect S2048x2048) {hl}
    {k : (r.shape.Idx → Elt F .f32) → Prog (TpuEff nD τ sig (Elt F) Λ₀ .tc) α} {S : Finset S2048x2048.Idx} {f : OBuf F} (hS : r.set ⊆ S) :
    oAt c S f ⊢ iprop((oAt c S f -∗ wpc c (k fun j => f (r.emb j)) Q) -∗ wpc c (.op (.load oM r.toLoadRect hl) k) Q) :=
  wp_load_rect 𝒱₀ (c : Thread nD τ) none Set.univ (m := oM) (r := r) (S := S)
    (by rw [show (oM.access r).set = r.set from View.set_slice_whole _ _]; exact hS)

/-- A store to a rectangle of the result. -/
theorem store_o {α : Type} {Q : α → sProp 𝕄} (c : Dev nD) (r : Rect S2048x2048) {hx hm}
    {k : PUnit → Prog (TpuEff nD τ sig (Elt F) Λ₀ .tc) α} {S : Finset S2048x2048.Idx} {f g : OBuf F} {v : r.shape.Idx → Elt F .f32}
    (hS : r.set ⊆ S) (hg : ∀ j, g (r.emb j) = v j) (hg' : ∀ i ∈ S, i ∉ r.set → g i = f i) :
    oAt c S f ⊢ iprop((oAt c S g -∗ wpc c (k ⟨⟩) Q) -∗ wpc c (.op (.store oM r v Finset.univ hx hm) k) Q) := by
  have hset : (oM.access r).set = r.set := View.set_slice_whole _ _
  rw [show (oAt c S g : sProp 𝕄) = ((oM.access r).loc (c : Thread nD τ) ↦[S]{fullShare} (oM.access r).write (Elt F) f v Finset.univ) from by
    symm
    unfold oAt
    refine pointsTo_congr fun i hi => ?_
    by_cases hr : i ∈ r.set
    · rw [← Rect.map_emb_univ, Finset.mem_map] at hr
      obtain ⟨j, -, rfl⟩ := hr
      rw [hg]
      exact (oM.access r).write_emb_of_mem (Val := Elt F) f v (Finset.mem_univ j)
    · rw [hg' i hi hr]
      exact (oM.access r).write_of_not_mem (Val := Elt F) f v Finset.univ (by rw [View.setOn_univ, hset]; exact hr)]
  exact wp_store 𝒱₀ (c : Thread nD τ) none Set.univ (m := oM) (r := r) (S := S) (by rw [View.setOn_univ, hset]; exact hS)

/-- A load of a whole slot, reshaped, is what the slot holds. -/
theorem load_slot {α : Type} {Q : α → sProp 𝕄} (c : Dev nD) (k : Fin 3) (b : Fin 6) {hl}
    {kk : ((slrect k b).shape.Idx → Elt F .f32) → Prog (TpuEff nD τ sig (Elt F) Λ₀ .tc) α} {v : (Sh b k.succ).Idx → Elt F .f32}
    (hc : (slrect k b).shape.ShapeCasts (Sh b k.succ)) :
    sAt c k b v ⊢ iprop((∀ u, ⌜shapeCast (Sh b k.succ) u hc = v⌝ -∗ sAt c k b v -∗ wpc c (kk u) Q)
      -∗ wpc c (.op (.load (scrM k) (slrect k b).toLoadRect hl) kk) Q) := by
  unfold sAt owns
  iintro ⟨%f, %hf, H⟩
  iintro Hk
  have hset : ((scrM k).access (slrect k b)).set = (slot k b).view.set := (View.set_reshape _ _).symm
  iapply (wp_load_rect (defs := defs₀ (F := F)) 𝒱₀ (c : Thread nD τ) none Set.univ (m := scrM k) (r := slrect k b) (S := (slot k b).view.set) (f := f)
    (by rw [hset])) $$ H
  iintro H
  iapply Hk $$ %_
  · ipureintro; exact (Memref.read_squeeze_slice (Val := Elt F) (scrM k) (slrect k b) (fun _ => rfl) (slot_sq k b) hc f).symm.trans hf
  iexists f
  isplitr; · ipureintro; exact hf
  iexact H

/-- The sum of what two loads read, the second of a slot. -/
def addPay (b : Fin 6) (k : Fin 3) (v : (Sh b k.succ).Idx → Elt F .f32) (u : (slrect k b).shape.Idx → Elt F .f32)
    (h : (Sh b k.succ).ShapeCasts (Sh b k.succ)) (h' : (slrect k b).shape.ShapeCasts (Sh b k.succ)) : (Sh b k.succ).Idx → Elt F .f32 :=
  addf (F := F) (φ := .f32) (shapeCast (Sh b k.succ) v h) (shapeCast (Sh b k.succ) u h')

/-- The state with one band taken out. -/
theorem St_band (c : Dev nD) (b : Fin 6) {s w x : ℕ} {r r' : Fin 6 → RC} {X : sProp 𝕄} (hr : ∀ b', b' ≠ b → r b' = r' b') :
    St P K c s w x r X ⊢ iprop(Rg P c b (r b) ∗ (Rg P c b (r' b) -∗ St P K c s w x r' X)) := by
  unfold St
  iintro ⟨#Hp, HO, HT, HB, HX⟩
  ihave HB' := (bigSep_upd (fun b : Fin 6 => Rg P c b (r b)) (fun b : Fin 6 => Rg P c b (r' b)) b
    (fun b' h => by rw [hr b' h])) $$ HB
  icases HB' with ⟨Hb, HB⟩
  isplitl [Hb]; · iexact Hb
  iintro Hb
  isplitr; · iexact Hp
  isplitl [HO]; · iexact HO
  isplitl [HT]; · iexact HT
  isplitl [Hb HB]; · iapply HB; iexact Hb
  iexact HX

theorem slots_succ (c : Dev nD) (b : Fin 6) (k : Fin 3) :
    (slots c b (k.val + 1) : sProp 𝕄) = iprop(sAny c k b ∗ slots c b k.val) := by
  unfold slots
  rw [show (Finset.univ.filter fun k' : Fin 3 => k'.val < k.val + 1) = insert k (Finset.univ.filter fun k' : Fin 3 => k'.val < k.val) from by
    revert k; decide, bigSep_insert (by simp)]
  rfl
theorem held_succ (c : Dev nD) (b : Fin 6) (k : Fin 3) :
    (held c b (k.val + 1) : sProp 𝕄) = iprop(oAny (peer b k c) (reg b k.succ c) ∗ held c b k.val) := by
  unfold held
  rw [show (Finset.univ.filter fun k' : Fin 3 => k'.val < k.val + 1) = insert k (Finset.univ.filter fun k' : Fin 3 => k'.val < k.val) from by
    revert k; decide, bigSep_insert (by simp)]
  rfl

/-- The part kept plus what has landed: the partial sums of the next step. -/
theorem step_add {α : Type} {Q : α → sProp 𝕄} {kk : PUnit → Prog (TpuEff nD τ sig (Elt F) Λ₀ .tc) α} (c : Dev nD)
    (k : Fin 3) (b : Fin 6) {s w x : ℕ} {r r' : Fin 6 → RC} {X : sProp 𝕄} {o : Fin 2 → ℕ} {ho : ∀ a, o a + (Sh b k.succ).size a ≤ S2048x2048.size a}
    {m : Memref sig .tc .vmem ⟨3, ![3, 688, W k.succ]⟩ .f32}
    {h₁ h₂ h₃ h₄ h₅} {pay : ((Sh b k.succ).Idx → Elt F .f32) → ((slrect k b).shape.Idx → Elt F .f32) → (Sh b k.succ).Idx → Elt F .f32}
    (hoff : o = offv b k.succ c) (hm : m = scrM k) (hc : (slrect k b).shape.ShapeCasts (Sh b k.succ))
    (hpay : ∀ v u, pay v u = addPay b k v u (by rfl) hc)
    (hr : ∀ b', b' ≠ b → r b' = r' b') (hrb : r b = .B k) (hrb' : r' b = .C k)
    (hk : St P K c s w x r' X ⊢ wpc c (kk ⟨⟩) Q) :
    St P K c s w x r X ⊢ wpc c (.op (.load oM (Rect.unit (s := S2048x2048) o (Sh b k.succ).size ho).toLoadRect h₁) fun v =>
      .op (.load m (slrect k b).toLoadRect h₂) fun u =>
      .op (.load oM (Rect.unit (s := S2048x2048) o (Sh b k.succ).size ho).toLoadRect h₃) fun _ =>
      .op (.store oM (Rect.unit (s := S2048x2048) o (Sh b k.succ).size ho) (pay v u) Finset.univ h₄ h₅) kk) Q := by
  subst hoff hm
  refine (St_band P K c b (r' := r') hr).trans ?_
  rw [hrb, hrb']
  simp only [Rg]
  iintro ⟨⟨Ho, Hs, Hh, Hsl⟩, HSt⟩
  iapply (load_o c (rect b k.succ c) (S := reg b k.succ c) (fun _ h => h)) $$ Ho
  iintro Ho
  iapply (load_slot c k b hc) $$ Hs
  iintro %u %hu Hs
  iapply (load_o c (rect b k.succ c) (S := reg b k.succ c) (fun _ h => h)) $$ Ho
  iintro Ho
  rw [hpay]
  iapply (store_o c (rect b k.succ c) (S := reg b k.succ c) (g := acc P k.succ c) (fun _ h => h)
    (fun j => by
      have hj : (rect b k.succ c).emb j ∈ reg b k.succ c := by
        unfold reg; rw [← Rect.map_emb_univ]; exact Finset.mem_map_of_mem _ (Finset.mem_univ j)
      unfold addPay addf
      rw [hu, shapeCast_self, acc_succ]
      show FloatOps.addf _ (acc P k.castSucc (peerS (stI _) k c) _) = FloatOps.addf _ (acc P k.castSucc (peer b k c) _)
      rw [stI_eq (mem_reg.mp hj).1]
      rfl)
    (fun i hi h => absurd hi h)) $$ Ho
  iintro Ho
  iapply hk
  iapply HSt
  isplitl [Ho]; · iexact Ho
  isplitl [Hh]; · iexact Hh
  rw [slots_succ c b k]
  isplitl [Hs]; · unfold sAny; iexists _; iexact Hs
  iexact Hsl

/-! ## How a band's parts go over into one another -/

theorem rs_sent (c : Dev nD) (k : Fin 3) (b : Fin 6) (R : sProp 𝕄) : iprop(sendPay P (false, k, b) c ∗ R) ⊢ R := by
  iintro ⟨-, H⟩
  iexact H
/-- What lands in the reduce-scatter: the slot, and the part of the partner's array it came from. -/
theorem rs_landed (c : Dev nD) (k : Fin 3) (b : Fin 6) : iprop(recvPay P (false, k, b) c ∗ Rg P c b (.A k)) ⊢ Rg P c b (.B k) := by
  simp only [Rg]
  rw [held_succ c b k]
  unfold recvPay
  rw [if_pos rfl]
  iintro ⟨⟨Hs, Hp⟩, Ho, Hh, Hsl⟩
  isplitl [Ho]; · iexact Ho
  isplitl [Hs]; · iexact Hs
  isplitl [Hp Hh]
  · isplitl [Hp]; · iexact Hp
    iexact Hh
  iexact Hsl
theorem ag_sent (c : Dev nD) (k : Fin 3) (b : Fin 6) : iprop(sendPay P (true, k, b) c ∗ Rg P c b (.Fl k)) ⊢ Rg P c b (.E k) := by
  simp only [Rg]
  unfold sendPay
  rw [if_neg (by simp)]
/-- What lands in the all-gather: the other half of the region. -/
theorem ag_landed (c : Dev nD) (k : Fin 3) (b : Fin 6) : iprop(recvPay P (true, k, b) c ∗ Rg P c b (.E k)) ⊢ Rg P c b (.D k) := by
  simp only [Rg]
  unfold recvPay
  rw [if_neg (by simp), ← reg_union b k c]
  iintro ⟨Hp, Ho, Hh, Hsl⟩
  isplitl [Hp Ho]
  · iapply (oAt_union c (reg_disjoint b k c) (fin P)).mpr
    isplitl [Ho]; · iexact Ho
    iexact Hp
  isplitl [Hh] <;> iassumption
/-- The partial sums after a step, split into what the next step sends and what it keeps. -/
theorem rs_next (c : Dev nD) {k k' : Fin 3} (h : k'.val = k.val + 1) (b : Fin 6) :
    Rg P c b (.C k) ⊢ iprop(oAt c (reg b k'.succ (peer b k' c)) (acc P k'.castSucc c) ∗ Rg P c b (.A k')) := by
  simp only [Rg]
  rw [← h, show k.succ = k'.castSucc from Fin.ext h.symm, ← reg_union b k' c]
  iintro ⟨Ho, Hh, Hsl⟩
  ihave Ho' := (oAt_union c (reg_disjoint b k' c) (acc P k'.castSucc c)).mp $$ Ho
  icases Ho' with ⟨H1, H2⟩
  isplitl [H2]; · iexact H2
  isplitl [H1]; · iexact H1
  isplitl [Hh] <;> iassumption
/-- The totals a device ends up responsible for, and the place in the partner's array they go to first. -/
theorem rs_last (c : Dev nD) (b : Fin 6) :
    Rg P c b (.C 2) ⊢ iprop((oAt c (reg b (2 : Fin 3).succ c) (fin P) ∗ oAny (peer b 2 c) (reg b (2 : Fin 3).succ c)) ∗ Rg P c b (.Fl 2)) := by
  simp only [Rg]
  rw [held_succ c b 2, oAt_congr c (reg b (2 : Fin 3).succ c) (acc P (2 : Fin 3).succ c) (fin P) (fin_eq P)]
  iintro ⟨Ho, ⟨Hp, Hh⟩, Hsl⟩
  isplitl [Ho Hp]
  · isplitl [Ho] <;> iassumption
  isplitl [Hh]; · iexact Hh
  iexact Hsl
theorem ag_next (c : Dev nD) {k k' : Fin 3} (h : k'.val = k.val + 1) (b : Fin 6) :
    Rg P c b (.D k') ⊢ iprop((oAt c (reg b k.succ c) (fin P) ∗ oAny (peer b k c) (reg b k.succ c)) ∗ Rg P c b (.Fl k)) := by
  simp only [Rg]
  rw [h, held_succ c b k, show k'.castSucc = k.succ from Fin.ext h]
  iintro ⟨Ho, ⟨Hp, Hh⟩, Hsl⟩
  isplitl [Ho Hp]
  · isplitl [Ho] <;> iassumption
  isplitl [Hh] <;> iassumption

/-- A slice of the result whose offset is a region's is that region's. -/
theorem oSl_of {b : Fin 6} {k : Fin 4} {c : Dev nD} {o : Fin 2 → ℕ} {ho : ∀ a, o a + (Sh b k).size a ≤ S2048x2048.size a} (h : o = offv b k c) :
    oM.slice (Rect.unit (s := S2048x2048) o (Sh b k).size ho) (fun _ => rfl) = oSl b k c := by subst h; rfl

/-! ## The bands after each transfer -/

/-- The stages a band goes through, one per step. -/
def stage : ℕ → RC
  | 0 => .A 0 | 1 => .A 1 | 2 => .A 2 | 3 => .Fl 2 | 4 => .Fl 1 | 5 => .Fl 0 | _ => .D 0
/-- The bands when the first `n` transfers have been used. -/
def rcOf (n : ℕ) (b : Fin 6) : RC := stage (if b.val < n % 6 then n / 6 + 1 else n / 6)
/-- The same with band `b` at a moment of its own. -/
abbrev rcAt (n : ℕ) (b : Fin 6) (z : RC) : Fin 6 → RC := Function.update (rcOf n) b z

theorem rcOf_step : ∀ (t : Tr) (b : Fin 6), b ≠ t.2.2 → rcOf (ord t) b = rcOf (ord t + 1) b := by decide +kernel
theorem rcOf_rs : ∀ (k : Fin 3) (b : Fin 6), rcOf (ord (false, k, b)) b = .A k := by decide +kernel
theorem rcOf_ag : ∀ (k : Fin 3) (b : Fin 6), rcOf (ord (true, k, b)) b = .Fl k := by decide +kernel
theorem rcOf_rs' : ∀ (k k' : Fin 3) (b : Fin 6), k'.val = k.val + 1 → rcOf (ord (false, k, b) + 1) b = .A k' := by decide +kernel
theorem rcOf_ag' : ∀ (k k' : Fin 3) (b : Fin 6), k'.val = k.val + 1 → rcOf (ord (true, k', b) + 1) b = .Fl k := by decide +kernel
theorem rcOf_rs'' : ∀ (b : Fin 6), rcOf (ord (false, 2, b) + 1) b = .Fl 2 := by decide +kernel
theorem rcOf_ag'' : ∀ (b : Fin 6), rcOf (ord (true, 0, b) + 1) b = .D 0 := by decide +kernel
theorem ord_turn : ∀ b : Fin 6, ord (false, 2, b) < ord (true, 2, b) := by decide +kernel
theorem ord_ag : ∀ (k k' : Fin 3) (b : Fin 6), k'.val = k.val + 1 → ord (true, k', b) < ord (true, k, b) := by decide +kernel
theorem rcAt_other (n n' : ℕ) (b : Fin 6) (z z' : RC) {b' : Fin 6} (h : b' ≠ b) (hn : rcOf n b' = rcOf n' b') : rcAt n b z b' = rcAt n' b z' b' := by
  unfold rcAt; rw [Function.update_of_ne h, Function.update_of_ne h, hn]
theorem rcAt_self (n : ℕ) (b : Fin 6) (z : RC) : rcAt n b z b = z := Function.update_self _ _ _
theorem rcAt_eq (n : ℕ) (b : Fin 6) (z : RC) (h : rcOf n b = z) : rcAt n b z = rcOf n := by
  rw [← h]; exact Function.update_eq_self _ _

/-! ## The groups -/

section Groups

/-- A transfer of the reduce-scatter used, and the next step's started. -/
theorem group_rs {α : Type} {Q : α → sProp 𝕄} {kk : PUnit → Prog (TpuEff nD τ sig (Elt F) Λ₀ .tc) α} (c : Dev nD)
    {X : sProp 𝕄} {q₁ q₂ q₃ q₄ : DmaSem sig} {sp₁ sp₂ sp₃ sp₄ : Space} {sh₁ sh₂ sh₃ sh₄ : Shape} {e₁ e₂ e₃ e₄ : EltTy}
    {s₁ : Memref sig .tc sp₁ sh₁ e₁} {d₁ : Memref sig .tc sp₂ sh₂ e₂} {s₂ : Memref sig .tc sp₃ sh₃ e₃} {d₂ : Memref sig .tc sp₄ sh₄ e₄}
    {a₁ a₁' a₂ a₂'}
    (k k' : Fin 3) (b : Fin 6) (n s : ℕ) {o : Dev nD → Fin 2 → ℕ} {ho : ∀ a, o c a + (Sh b k.succ).size a ≤ S2048x2048.size a}
    {m : Memref sig .tc .vmem ⟨3, ![3, 688, W k.succ]⟩ .f32} {h₁ h₂ h₃ h₄ h₅}
    {pay : ((Sh b k.succ).Idx → Elt F .f32) → ((slrect k b).shape.Idx → Elt F .f32) → (Sh b k.succ).Idx → Elt F .f32}
    {o' : Dev nD → Fin 2 → ℕ} {ho' : ∀ a, o' c a + (Sh b k'.succ).size a ≤ S2048x2048.size a} {dv : Dev nD → ℕ} {hlt : dv c < nD}
    {dst : Memref sig (Dev.tc ⟨dv c, hlt⟩ : Thread nD τ).2.kind .vmem (Sh b k'.succ) .f32} {hsc b₁ b₂ b₃}
    (hkk : k'.val = k.val + 1 := by rfl) (hn : ord (false, k, b) = n := by rfl) (hs : ord (false, k', b) = s := by rfl)
    (hq₁ : q₁ = semT false (false, k, b) := by rfl) (hN₁ : d₁.view.dmaCredit = NT k b := by rfl)
    (hq₂ : q₂ = semT true (false, k, b) := by rfl) (hN₂ : d₂.view.dmaCredit = NT k b := by rfl)
    (hoff : ∀ d, o d = offv b k.succ d := by decide +kernel) (hm : m = scrM k := by rfl)
    (hc : (slrect k b).shape.ShapeCasts (Sh b k.succ) := by decide +kernel) (hpay : ∀ v u, pay v u = addPay b k v u (by rfl) hc := by exact fun _ _ => rfl)
    (hoff' : ∀ d, o' d = offv b k'.succ (peer b k' d) := by decide +kernel) (hdv : ∀ d, dv d = (peer b k' d).val := by decide +kernel)
    (hdst : dst = slot k' b := by rfl) (hq₃ : q₃ = semT false (false, k', b) := by rfl) (hq₄ : q₄ = semT true (false, k', b) := by rfl)
    (hk : St P K c (s + 1) (n + 1) 0 (rcOf (n + 1)) X ⊢ wpc c (kk ⟨⟩) Q) :
    St P K c s n 0 (rcOf n) X ⊢ wpc c (.op (.waitDma2 q₁ s₁ d₁ a₁ a₁') fun _ => .op (.waitDma2 q₂ s₂ d₂ a₂ a₂') fun _ =>
      .op (.load oM (Rect.unit (s := S2048x2048) (o c) (Sh b k.succ).size ho).toLoadRect h₁) fun v =>
      .op (.load m (slrect k b).toLoadRect h₂) fun u =>
      .op (.load oM (Rect.unit (s := S2048x2048) (o c) (Sh b k.succ).size ho).toLoadRect h₃) fun _ =>
      .op (.store oM (Rect.unit (s := S2048x2048) (o c) (Sh b k.succ).size ho) (pay v u) Finset.univ h₄ h₅) fun _ =>
      .op (.enqueueDma (oM.slice (Rect.unit (s := S2048x2048) (o' c) (Sh b k'.succ).size ho') (fun _ => rfl))
        (.remote (Dev.tc ⟨dv c, hlt⟩ : Thread nD τ) dst (.dma q₃) hsc) (.dma q₄) b₁ b₂ b₃) kk) Q := by
  have hns : n < s := by subst hn hs; unfold ord; simp only [Bool.false_eq_true, if_false]; omega
  rw [← rcAt_eq n b (.A k) (by rw [← hn]; exact rcOf_rs k b)]
  have hr : ∀ z z' : RC, ∀ b', b' ≠ b → rcAt n b z b' = rcAt n b z' b' := fun z z' b' h => rcAt_other n n b z z' h rfl
  refine step_waitS P K c (false, k, b) hq₁ hN₁ hn hns (hr _ (.A k)) (by rw [rcAt_self]; exact rs_sent P c k b _) ?_
  refine step_waitR P K c (false, k, b) hq₂ hN₂ hn hns (hr _ (.B k)) (by rw [rcAt_self, rcAt_self]; exact rs_landed P c k b) ?_
  refine step_add P K c k b (r' := rcAt n b (.C k)) (hoff c) hm hc hpay (hr _ _) (rcAt_self _ _ _) (rcAt_self _ _ _) ?_
  refine step_sendRS P K c k' b (r' := rcOf (n + 1)) (Fin.ext (hdv c)) hq₃ hq₄ (oSl_of (hoff' c)) hdst hs (by omega)
    (fun b' h => by
      unfold rcAt; rw [Function.update_of_ne h, ← hn]; exact rcOf_step (false, k, b) b' h)
    (by
      rw [rcAt_self, ← hn, rcOf_rs' k k' b hkk]
      exact rs_next P c hkk b) hk

/-- The last transfer of the reduce-scatter used, and the all-gather's first started. -/
theorem group_turn {α : Type} {Q : α → sProp 𝕄} {kk : PUnit → Prog (TpuEff nD τ sig (Elt F) Λ₀ .tc) α} (c : Dev nD)
    {X : sProp 𝕄} {q₁ q₂ q₃ q₄ : DmaSem sig} {sp₁ sp₂ sp₃ sp₄ : Space} {sh₁ sh₂ sh₃ sh₄ : Shape} {e₁ e₂ e₃ e₄ : EltTy}
    {s₁ : Memref sig .tc sp₁ sh₁ e₁} {d₁ : Memref sig .tc sp₂ sh₂ e₂} {s₂ : Memref sig .tc sp₃ sh₃ e₃} {d₂ : Memref sig .tc sp₄ sh₄ e₄}
    {a₁ a₁' a₂ a₂'}
    (b : Fin 6) (n s : ℕ) {o : Dev nD → Fin 2 → ℕ} {ho : ∀ a, o c a + (Sh b (2 : Fin 3).succ).size a ≤ S2048x2048.size a}
    {m : Memref sig .tc .vmem ⟨3, ![3, 688, W (2 : Fin 3).succ]⟩ .f32} {h₁ h₂ h₃ h₄ h₅}
    {pay : ((Sh b (2 : Fin 3).succ).Idx → Elt F .f32) → ((slrect 2 b).shape.Idx → Elt F .f32) → (Sh b (2 : Fin 3).succ).Idx → Elt F .f32}
    {o' : Dev nD → Fin 2 → ℕ} {ho' : ∀ a, o' c a + (Sh b (2 : Fin 3).succ).size a ≤ S2048x2048.size a} {dv : Dev nD → ℕ} {hlt : dv c < nD}
    {od : Dev nD → Fin 2 → ℕ} {hod : ∀ a, od c a + (Sh b (2 : Fin 3).succ).size a ≤ S2048x2048.size a} {hsc b₁ b₂ b₃}
    (hn : ord (false, 2, b) = n := by rfl) (hs : ord (true, 2, b) = s := by rfl)
    (hq₁ : q₁ = semT false (false, 2, b) := by rfl) (hN₁ : d₁.view.dmaCredit = NT 2 b := by rfl)
    (hq₂ : q₂ = semT true (false, 2, b) := by rfl) (hN₂ : d₂.view.dmaCredit = NT 2 b := by rfl)
    (hoff : ∀ d, o d = offv b (2 : Fin 3).succ d := by decide +kernel) (hm : m = scrM 2 := by rfl)
    (hc : (slrect 2 b).shape.ShapeCasts (Sh b (2 : Fin 3).succ) := by decide +kernel) (hpay : ∀ v u, pay v u = addPay b 2 v u (by rfl) hc := by exact fun _ _ => rfl)
    (hoff' : ∀ d, o' d = offv b (2 : Fin 3).succ d := by decide +kernel) (hdv : ∀ d, dv d = (peer b 2 d).val := by decide +kernel)
    (hod' : ∀ d, od d = offv b (2 : Fin 3).succ d := by decide +kernel) (hq₃ : q₃ = semT false (true, 2, b) := by rfl) (hq₄ : q₄ = semT true (true, 2, b) := by rfl)
    (hk : St P K c (s + 1) (n + 1) 0 (rcOf (n + 1)) X ⊢ wpc c (kk ⟨⟩) Q) :
    St P K c s n 0 (rcOf n) X ⊢ wpc c (.op (.waitDma2 q₁ s₁ d₁ a₁ a₁') fun _ => .op (.waitDma2 q₂ s₂ d₂ a₂ a₂') fun _ =>
      .op (.load oM (Rect.unit (s := S2048x2048) (o c) (Sh b (2 : Fin 3).succ).size ho).toLoadRect h₁) fun v =>
      .op (.load m (slrect 2 b).toLoadRect h₂) fun u =>
      .op (.load oM (Rect.unit (s := S2048x2048) (o c) (Sh b (2 : Fin 3).succ).size ho).toLoadRect h₃) fun _ =>
      .op (.store oM (Rect.unit (s := S2048x2048) (o c) (Sh b (2 : Fin 3).succ).size ho) (pay v u) Finset.univ h₄ h₅) fun _ =>
      .op (.enqueueDma (oM.slice (Rect.unit (s := S2048x2048) (o' c) (Sh b (2 : Fin 3).succ).size ho') (fun _ => rfl))
        (.remote (Dev.tc ⟨dv c, hlt⟩ : Thread nD τ) (oM.slice (Rect.unit (s := S2048x2048) (od c) (Sh b (2 : Fin 3).succ).size hod) (fun _ => rfl)) (.dma q₃) hsc) (.dma q₄) b₁ b₂ b₃) kk) Q := by
  have hns : n < s := by subst hn hs; exact ord_turn b
  rw [← rcAt_eq n b (.A 2) (by rw [← hn]; exact rcOf_rs 2 b)]
  have hr : ∀ z z' : RC, ∀ b', b' ≠ b → rcAt n b z b' = rcAt n b z' b' := fun z z' b' h => rcAt_other n n b z z' h rfl
  refine step_waitS P K c (false, 2, b) hq₁ hN₁ hn hns (hr _ (.A 2)) (by rw [rcAt_self]; exact rs_sent P c 2 b _) ?_
  refine step_waitR P K c (false, 2, b) hq₂ hN₂ hn hns (hr _ (.B 2)) (by rw [rcAt_self, rcAt_self]; exact rs_landed P c 2 b) ?_
  refine step_add P K c 2 b (r' := rcAt n b (.C 2)) (hoff c) hm hc hpay (hr _ _) (rcAt_self _ _ _) (rcAt_self _ _ _) ?_
  refine step_sendAG P K c 2 b (r' := rcOf (n + 1)) (Fin.ext (hdv c)) hq₃ hq₄ (oSl_of (hoff' c)) (oSl_of (hod' c)) hs (by omega)
    (fun b' h => by
      unfold rcAt; rw [Function.update_of_ne h, ← hn]; exact rcOf_step (false, 2, b) b' h)
    (by
      rw [rcAt_self, ← hn, rcOf_rs'' b]
      exact rs_last P c b) hk

/-- A transfer of the all-gather landed, and the next step's started. -/
theorem group_ag {α : Type} {Q : α → sProp 𝕄} {kk : PUnit → Prog (TpuEff nD τ sig (Elt F) Λ₀ .tc) α} (c : Dev nD)
    {X : sProp 𝕄} {q₁ q₂ q₃ q₄ : DmaSem sig} {sp₁ sp₂ sp₃ sp₄ : Space} {sh₁ sh₂ sh₃ sh₄ : Shape} {e₁ e₂ e₃ e₄ : EltTy}
    {s₁ : Memref sig .tc sp₁ sh₁ e₁} {d₁ : Memref sig .tc sp₂ sh₂ e₂} {s₂ : Memref sig .tc sp₃ sh₃ e₃} {d₂ : Memref sig .tc sp₄ sh₄ e₄}
    {a₁ a₁' a₂ a₂'}
    (k k' : Fin 3) (b : Fin 6) (n s : ℕ)
    {o' : Dev nD → Fin 2 → ℕ} {ho' : ∀ a, o' c a + (Sh b k.succ).size a ≤ S2048x2048.size a} {dv : Dev nD → ℕ} {hlt : dv c < nD}
    {od : Dev nD → Fin 2 → ℕ} {hod : ∀ a, od c a + (Sh b k.succ).size a ≤ S2048x2048.size a} {hsc b₁ b₂ b₃}
    (hkk : k'.val = k.val + 1 := by rfl) (hn : ord (true, k', b) = n := by rfl) (hs : ord (true, k, b) = s := by rfl)
    (hq₁ : q₁ = semT false (true, k', b) := by rfl) (hN₁ : d₁.view.dmaCredit = NT k' b := by rfl)
    (hq₂ : q₂ = semT true (true, k', b) := by rfl) (hN₂ : d₂.view.dmaCredit = NT k' b := by rfl)
    (hoff' : ∀ d, o' d = offv b k.succ d := by decide +kernel) (hdv : ∀ d, dv d = (peer b k d).val := by decide +kernel)
    (hod' : ∀ d, od d = offv b k.succ d := by decide +kernel) (hq₃ : q₃ = semT false (true, k, b) := by rfl) (hq₄ : q₄ = semT true (true, k, b) := by rfl)
    (hk : St P K c (s + 1) (n + 1) 0 (rcOf (n + 1)) X ⊢ wpc c (kk ⟨⟩) Q) :
    St P K c s n 0 (rcOf n) X ⊢ wpc c (.op (.waitDma2 q₁ s₁ d₁ a₁ a₁') fun _ => .op (.waitDma2 q₂ s₂ d₂ a₂ a₂') fun _ =>
      .op (.enqueueDma (oM.slice (Rect.unit (s := S2048x2048) (o' c) (Sh b k.succ).size ho') (fun _ => rfl))
        (.remote (Dev.tc ⟨dv c, hlt⟩ : Thread nD τ) (oM.slice (Rect.unit (s := S2048x2048) (od c) (Sh b k.succ).size hod) (fun _ => rfl)) (.dma q₃) hsc) (.dma q₄) b₁ b₂ b₃) kk) Q := by
  have hns : n < s := by subst hn hs; exact ord_ag k k' b hkk
  rw [← rcAt_eq n b (.Fl k') (by rw [← hn]; exact rcOf_ag k' b)]
  have hr : ∀ z z' : RC, ∀ b', b' ≠ b → rcAt n b z b' = rcAt n b z' b' := fun z z' b' h => rcAt_other n n b z z' h rfl
  refine step_waitS P K c (true, k', b) hq₁ hN₁ hn hns (hr _ (.E k')) (by rw [rcAt_self, rcAt_self]; exact ag_sent P c k' b) ?_
  refine step_waitR P K c (true, k', b) hq₂ hN₂ hn hns (hr _ (.D k')) (by rw [rcAt_self, rcAt_self]; exact ag_landed P c k' b) ?_
  refine step_sendAG P K c k b (r' := rcOf (n + 1)) (Fin.ext (hdv c)) hq₃ hq₄ (oSl_of (hoff' c)) (oSl_of (hod' c)) hs (by omega)
    (fun b' h => by
      unfold rcAt; rw [Function.update_of_ne h, ← hn]; exact rcOf_step (true, k', b) b' h)
    (by
      rw [rcAt_self, ← hn, rcOf_ag' k k' b hkk]
      exact ag_next P c hkk b) hk

/-- A transfer of the all-gather's last step landed. -/
theorem group_end {α : Type} {Q : α → sProp 𝕄} {kk : PUnit → Prog (TpuEff nD τ sig (Elt F) Λ₀ .tc) α} (c : Dev nD)
    {X : sProp 𝕄} {q₁ q₂ : DmaSem sig} {sp₁ sp₂ sp₃ sp₄ : Space} {sh₁ sh₂ sh₃ sh₄ : Shape} {e₁ e₂ e₃ e₄ : EltTy}
    {s₁ : Memref sig .tc sp₁ sh₁ e₁} {d₁ : Memref sig .tc sp₂ sh₂ e₂} {s₂ : Memref sig .tc sp₃ sh₃ e₃} {d₂ : Memref sig .tc sp₄ sh₄ e₄}
    {a₁ a₁' a₂ a₂'}
    (b : Fin 6) (n : ℕ) (hn : ord (true, 0, b) = n := by rfl)
    (hq₁ : q₁ = semT false (true, 0, b) := by rfl) (hN₁ : d₁.view.dmaCredit = NT 0 b := by rfl)
    (hq₂ : q₂ = semT true (true, 0, b) := by rfl) (hN₂ : d₂.view.dmaCredit = NT 0 b := by rfl)
    (hk : St P K c 36 (n + 1) 0 (rcOf (n + 1)) X ⊢ wpc c (kk ⟨⟩) Q) :
    St P K c 36 n 0 (rcOf n) X ⊢ wpc c (.op (.waitDma2 q₁ s₁ d₁ a₁ a₁') fun _ => .op (.waitDma2 q₂ s₂ d₂ a₂ a₂') kk) Q := by
  have hns : n < 36 := by rw [← hn]; exact ord_lt _
  rw [← rcAt_eq n b (.Fl 0) (by rw [← hn]; exact rcOf_ag 0 b)]
  have hr : ∀ z z' : RC, ∀ b', b' ≠ b → rcAt n b z b' = rcAt n b z' b' := fun z z' b' h => rcAt_other n n b z z' h rfl
  refine step_waitS P K c (true, 0, b) hq₁ hN₁ hn hns (hr _ (.E 0)) (by rw [rcAt_self, rcAt_self]; exact ag_sent P c 0 b) ?_
  refine step_waitR P K c (true, 0, b) hq₂ hN₂ hn hns (r' := rcOf (n + 1)) (fun b' h => by
      unfold rcAt; rw [Function.update_of_ne h, ← hn]; exact rcOf_step (true, 0, b) b' h)
    (by
      rw [rcAt_self, ← hn, rcOf_ag'' b]
      exact ag_landed P c 0 b) hk

end Groups

end Cert.AllReduce

end
-- ==== Proof.Dots.lean ====
/-
# The products

Each device multiplies its columns of the first operand with its rows of the second, a stream and a half of the
columns at a time. `prod` is what these six products make of the whole array; `dot_step` is one of them.
-/
module

public import proofs.«01_k».proof.Proof.Groups
public import Idealize.ShloMosaic.Lib.Pipeline.Value

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the products are -/

/-- The first row of a stream, and how many it has. -/
@[reducible] def so (s : Fin 3) : ℕ := ![0, 688, 1376] s
@[reducible] def sh (s : Fin 3) : ℕ := ![688, 688, 672] s
/-- A stream's two bands. -/
def bd (s : Fin 3) : Fin 6 := ![0, 2, 4] s
def bd' (s : Fin 3) : Fin 6 := ![1, 3, 5] s

abbrev XBuf (F : FTy → Type) : Type := (cc0_stg0_0 : Ref sig .tc).ty.Contents (Elt F)
abbrev WBuf (F : FTy → Type) : Type := (cc0_stg1_0 : Ref sig .tc).ty.Contents (Elt F)

/-- The product of a stream's rows with one half of the columns. -/
def dotP : (s : Fin 3) → ((⟨2, ![sh s, 256]⟩ : Shape).Idx → Elt F .f32) → (S256x1024.Idx → Elt F .f32) → (⟨2, ![sh s, 1024]⟩ : Shape).Idx → Elt F .f32
  | 0 => fun v u => k0_pay1 v u
  | 1 => fun v u => k0_pay2 v u
  | 2 => fun v u => k0_pay3 v u

theorem xr_inb (s : Fin 3) : ∀ a, (![so s, 0] : Fin 2 → ℕ) a + (⟨2, ![sh s, 256]⟩ : Shape).size a ≤ S2048x256.size a := by
  revert s; decide +kernel
theorem wr_inb (h : Fin 2) : ∀ a, (![0, 1024 * h.val] : Fin 2 → ℕ) a + S256x1024.size a ≤ S256x2048.size a := by
  revert h; decide +kernel
/-- A stream's rows of the first operand. -/
abbrev xrect (s : Fin 3) : Rect S2048x256 := Rect.unit (s := S2048x256) ![so s, 0] (⟨2, ![sh s, 256]⟩ : Shape).size (xr_inb s)
/-- A half of the second operand's columns. -/
abbrev wrect (h : Fin 2) : Rect S256x2048 := Rect.unit (s := S256x2048) ![0, 1024 * h.val] S256x1024.size (wr_inb h)
def xrows (s : Fin 3) (X : XBuf F) : (⟨2, ![sh s, 256]⟩ : Shape).Idx → Elt F .f32 := fun j => X ((xrect s).emb j)
def whalf (h : Fin 2) (Y : WBuf F) : S256x1024.Idx → Elt F .f32 := fun j => Y ((wrect h).emb j)

theorem sh_pos (s : Fin 3) : 0 < sh s := by revert s; decide
/-- Where an element of the result lies in the product it comes from. -/
def jI (s : Fin 3) (i : S2048x2048.Idx) : (⟨2, ![sh s, 1024]⟩ : Shape).Idx := fun a => match a with
  | 0 => ⟨((i 0).val - so s) % sh s, Nat.mod_lt _ (sh_pos s)⟩
  | 1 => ⟨(i 1).val % 1024, Nat.mod_lt _ (by decide)⟩
/-- The half of the columns an element lies in. -/
def hI (i : S2048x2048.Idx) : Fin 2 := if (i 1).val < 1024 then 0 else 1

/-- The product of a device's two blocks, put together from the six products the device computes. -/
def prod (X : XBuf F) (Y : WBuf F) : OBuf F :=
  fun (i : S2048x2048.Idx) => dotP (stI i) (xrows (stI i) X) (whalf (hI i) Y) (jI (stI i) i)

/-- The half of the columns stream `s` is responsible for on device `d` after its first step. -/
def hS (s : Fin 3) (d : Dev nD) : Fin 2 := if sel s 0 d = 0 then 0 else 1
theorem offS_hS (s : Fin 3) (d : Dev nD) : offS s 1 d = 1024 * (hS s d).val := by revert s d; decide +kernel

/-- Where a device puts such a product. -/
@[reducible] def doff (s : Fin 3) (d : Dev nD) : Fin 2 → ℕ := ![so s, 1024 * (hS s d).val]
theorem doff_inb (s : Fin 3) (d : Dev nD) : ∀ a, doff s d a + (⟨2, ![sh s, 1024]⟩ : Shape).size a ≤ S2048x2048.size a := by
  revert s d; decide +kernel
abbrev drect (s : Fin 3) (d : Dev nD) : Rect S2048x2048 := Rect.unit (s := S2048x2048) (doff s d) (⟨2, ![sh s, 1024]⟩ : Shape).size (doff_inb s d)

theorem mem_drect {s : Fin 3} {d : Dev nD} {i : S2048x2048.Idx} :
    i ∈ (drect s d).set ↔ (so s ≤ (i 0).val ∧ (i 0).val < so s + sh s) ∧ (1024 * (hS s d).val ≤ (i 1).val ∧ (i 1).val < 1024 * (hS s d).val + 1024) := by
  rw [Rect.mem_set_unit, Fin.forall_fin_two]
  rfl

theorem bands_of (s : Fin 3) : st (bd s) = s ∧ st (bd' s) = s ∧ bd s ≠ bd' s ∧ ro (bd s) = so s ∧ ro (bd' s) = so s + rh (bd s) ∧ sh s = rh (bd s) + rh (bd' s) := by
  revert s; decide +kernel
/-- It covers the stream's two bands. -/
theorem drect_union (s : Fin 3) (d : Dev nD) : reg (bd s) 1 d ∪ reg (bd' s) 1 d = (drect s d).set := by
  obtain ⟨h1, h2, -, h3, h4, h5⟩ := bands_of s
  ext i
  rw [Finset.mem_union, mem_reg, mem_reg, mem_drect]
  unfold off
  rw [h1, h2, offS_hS, h3, h4, h5, show W 1 = 1024 from rfl]
  omega
theorem drect_disjoint (s : Fin 3) (d : Dev nD) : Disjoint (reg (bd s) 1 d) (reg (bd' s) 1 d) := by
  obtain ⟨h1, h2, -, h3, h4, h5⟩ := bands_of s
  rw [Finset.disjoint_left]
  intro i h h'
  rw [mem_reg] at h h'
  omega

theorem stI_stream {s : Fin 3} {i : S2048x2048.Idx} (h : so s ≤ (i 0).val ∧ (i 0).val < so s + sh s) : stI i = s := by
  unfold stI
  revert h
  generalize (i 0).val = n
  revert s
  intro s
  fin_cases s <;> intro h <;> simp at h ⊢ <;> (repeat' split) <;> first | rfl | omega

/-- On the rectangle of stream `s` and half `hS s d` the array holds that product. -/
theorem prod_emb (s : Fin 3) (d : Dev nD) (X : XBuf F) (Y : WBuf F) (j : (⟨2, ![sh s, 1024]⟩ : Shape).Idx) :
    prod X Y ((drect s d).emb j) = dotP s (xrows s X) (whalf (hS s d) Y) j := by
  have hm : (drect s d).emb j ∈ (drect s d).set := by
    rw [← Rect.map_emb_univ]; exact Finset.mem_map_of_mem _ (Finset.mem_univ j)
  rw [mem_drect] at hm
  unfold prod
  have e0 : (((drect s d).emb j) 0).val = so s + (j 0).val := by
    show so s + 1 * (j 0).val = _
    omega
  have e1 : (((drect s d).emb j) 1).val = 1024 * (hS s d).val + (j 1).val := by
    show 1024 * (hS s d).val + 1 * (j 1).val = _
    omega
  have hh : hI ((drect s d).emb j) = hS s d := by
    unfold hI
    have := (hS s d).isLt
    split <;> apply Fin.ext <;> simp <;> omega
  have h0 : (j 0).val < sh s := (j 0).isLt
  have h1 : (j 1).val < 1024 := (j 1).isLt
  rw [stI_stream hm.1, hh]
  congr 1
  funext a
  match a with
  | 0 =>
    apply Fin.ext
    show ((((drect s d).emb j) 0).val - so s) % sh s = _
    rw [e0, Nat.add_sub_cancel_left, Nat.mod_eq_of_lt h0]
  | 1 =>
    apply Fin.ext
    show (((drect s d).emb j) 1).val % 1024 = _
    rw [e1, Nat.mul_add_mod, Nat.mod_eq_of_lt h1]

/-! ## One product -/

/-- Device `c`'s staged operands. -/
def xPt (c : Dev nD) (X : XBuf F) : sProp 𝕄 := ((c : Thread nD τ).loc cc0_stg0_0) ↦{fullShare} X
def wPt (c : Dev nD) (Y : WBuf F) : sProp 𝕄 := ((c : Thread nD τ).loc cc0_stg1_0) ↦{fullShare} Y

/-- One product: two loads, a load whose value is not used, and the store of the product to where it belongs. -/
theorem dot_step {α : Type} {Q : α → sProp 𝕄} {kk : PUnit → Prog (TpuEff nD τ sig (Elt F) Λ₀ .tc) α} (c : Dev nD) (s : Fin 3) (d : Dev nD)
    {X : XBuf F} {Y : WBuf F} {ow : Fin 2 → ℕ} {how : ∀ a, ow a + S256x1024.size a ≤ S256x2048.size a}
    {o : Fin 2 → ℕ} {ho : ∀ a, o a + (⟨2, ![sh s, 1024]⟩ : Shape).size a ≤ S2048x2048.size a} {hx h₁ h₂ h₃ h₄ h₅}
    {pay : ((⟨2, ![sh s, 256]⟩ : Shape).Idx → Elt F .f32) → (S256x1024.Idx → Elt F .f32) → (⟨2, ![sh s, 1024]⟩ : Shape).Idx → Elt F .f32}
    (hw : ow = ![0, 1024 * (hS s d).val]) (hoff : o = doff s d) (hpay : ∀ v u, pay v u = dotP s v u) :
    iprop(xPt c X ∗ wPt c Y ∗ oAny c (reg (bd s) 1 d) ∗ oAny c (reg (bd' s) 1 d))
      ⊢ iprop(((xPt c X ∗ wPt c Y ∗ oAt c (reg (bd s) 1 d) (prod X Y) ∗ oAt c (reg (bd' s) 1 d) (prod X Y)) -∗ wpc c (kk ⟨⟩) Q)
        -∗ wpc c (.op (.load xM (Rect.unit (s := S2048x256) ![so s, 0] (⟨2, ![sh s, 256]⟩ : Shape).size hx).toLoadRect h₁) fun v =>
          .op (.load wM (Rect.unit (s := S256x2048) ow S256x1024.size how).toLoadRect h₂) fun u =>
          .op (.load oM (Rect.unit (s := S2048x2048) o (⟨2, ![sh s, 1024]⟩ : Shape).size ho).toLoadRect h₃) fun _ =>
          .op (.store oM (Rect.unit (s := S2048x2048) o (⟨2, ![sh s, 1024]⟩ : Shape).size ho) (pay v u) Finset.univ h₄ h₅) kk) Q) := by
  subst hw hoff
  unfold xPt wPt oAny
  iintro ⟨Hx, Hw, ⟨%f, Ho⟩, ⟨%g, Ho'⟩⟩
  iintro Hk
  ihave Ho := (pointsTo_join (ℓ := (c : Thread nD τ).loc cc0_stg2_0) (f := f) (g := g) (drect_disjoint s d)) $$ [Ho Ho']
  · unfold oAt
    isplitl [Ho] <;> iassumption
  ihave Ho := (Entails.of_eq (show _ = oAt c (drect s d).set _ by unfold oAt; rw [drect_union])) $$ Ho
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (load_o c (drect s d) (fun _ h => h)) $$ Ho
  iintro Ho
  rw [hpay]
  iapply (store_o c (drect s d) (g := prod X Y) (fun _ h => h) (fun j => prod_emb s d X Y j) (fun i hi h => absurd hi h)) $$ Ho
  iintro Ho
  iapply Hk
  ihave Ho' := (oAt_union c (drect_disjoint s d) (prod X Y)).mp $$ [Ho]
  · rw [drect_union]; iexact Ho
  icases Ho' with ⟨H1, H2⟩
  isplitl [Hx]; · iexact Hx
  isplitl [Hw]; · iexact Hw
  isplitl [H1] <;> iassumption

end Cert.AllReduce

end
-- ==== Proof.Start.lean ====
/-
# The start of a run

What a device does before its first wait for a transfer: it signals its three partners, computes the products it is
to send, waits for its partners' signals before it sends anything, and computes the products it keeps.
-/
module

public import proofs.«01_k».proof.Proof.Dots
public import Idealize.ShloMosaic.Lib.Pipeline.Value

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → OBuf F) (K : Dev nD × CI → ℕ)

/-! ## Slots by mask -/

theorem kbOf_fiber (m : Fin 3) : kbOf m = Finset.univ.filter fun x : Fin 3 × Fin 6 => mi (st x.2) x.1 = m := rfl
/-- A family over steps and bands, by masks. -/
theorem by_masks (Φ : Fin 3 × Fin 6 → sProp 𝕄) :
    bigSep Finset.univ Φ = bigSep Finset.univ fun m : Fin 3 => bigSep (kbOf m) Φ := by
  rw [bigSep_fiberwise Finset.univ (fun x : Fin 3 × Fin 6 => mi (st x.2) x.1) Φ,
    show (Finset.univ.image fun x : Fin 3 × Fin 6 => mi (st x.2) x.1) = Finset.univ from by decide +kernel]
  rfl
/-- What the three signals together bring: a landing slot at the partner for every step and band. -/
theorem bar_all (c : Dev nD) : (bigSep Finset.univ fun m : Fin 3 => barPay (F := F) c m)
    = bigSep Finset.univ fun x : Fin 3 × Fin 6 => sAny (peer x.2 x.1 c) x.1 x.2 := by
  rw [by_masks]
  refine bigSep_congr fun m _ => ?_
  unfold barPay
  refine bigSep_congr fun x hx => ?_
  rw [kbOf_fiber, Finset.mem_filter] at hx
  unfold peer peerS
  rw [hx.2]
theorem fin3 (Φ : Fin 3 → sProp 𝕄) : bigSep Finset.univ Φ = iprop(Φ 0 ∗ Φ 1 ∗ Φ 2) := by
  rw [bigSep_univ_eq_bigSepL [0, 1, 2] (by decide) (by decide)]
  exact congrArg (fun R => iprop(Φ 0 ∗ Φ 1 ∗ R)) (by simp [bigSepL])

/-! ## Signals and the barrier -/

/-- A signal to the partner along mask `m` hands it this device's slots for that mask. -/
theorem signal_step {α : Type} {Q : α → sProp 𝕄} {kk : PUnit → Prog (TpuEff nD τ sig (Elt F) Λ₀ .tc) α} (c : Dev nD) (m : Fin 3)
    {dv : Dev nD} {n : ℤ} {O : CellTallies nD τ sig Unit} {Wt : Waits sig Unit} (hdv : dv = flip m c) (hn : n = ((1 : ℕ) : ℤ)) :
    iprop(pers P K ∗ owes (c : Thread nD τ) (O + tallyAt (barCell (flip m c)) () 1) Wt ∗ dutyTok ER (barCell (flip m c)) 0 m
        ∗ bigSep (kbOf m) fun x => sAny c x.1 x.2)
      ⊢ iprop((owes (c : Thread nD τ) O Wt -∗ wpc c (kk ⟨⟩) Q) -∗ wpc c (.op (.semSignal ((dv, .tc) : Thread nD τ) barS n) kk) Q) := by
  subst hdv hn
  iintro ⟨#Hp, HO, Ht, Hs⟩
  ihave Hc := (pers_cell P K (flip m c, .inl ())) $$ Hp
  icases Hc with ⟨#HI, #Hr⟩
  iapply (Rounds.wp_signal 𝒱₀ ER (sched P) (c : Thread nD τ) none (dst := (flip m c : Thread nD τ)) (κ := K (flip m c, .inl ()))
      (d := m) (by rw [duties_bar]; exact Finset.mem_univ _) (amount_bar P (flip m c) m) () O rfl)
  isplitr; · iexact HI
  isplitl [HO]; · iexact HO
  isplitl [Ht]; · iexact Ht
  isplitl [Hs]
  · rw [payload_bar]; unfold barPay; rw [flip_flip]; iexact Hs
  iexact Hr

/-- The wait for the three partners' signals. -/
theorem barrier_step {α : Type} {Q : α → sProp 𝕄} {kk : PUnit → Prog (TpuEff nD τ sig (Elt F) Λ₀ .tc) α} (c : Dev nD)
    {n : ℤ} {Wt : Waits sig Unit} (hn : n = ((3 : ℕ) : ℤ)) :
    iprop(pers P K ∗ owes (c : Thread nD τ) (owed 0 c) Wt ∗ cred (tallyAt (barCell c) () 3) ∗ atPos ER (barCell c) 0 ∅ 0)
      ⊢ iprop((((∃ Wt, owes (c : Thread nD τ) (owed 0 c) Wt) ∗ semVal (barCell c) 0
          ∗ bigSep Finset.univ fun x : Fin 3 × Fin 6 => sAny (peer x.2 x.1 c) x.1 x.2) -∗ wpc c (kk ⟨⟩) Q)
        -∗ wpc c (.op (.semWait barS n) kk) Q) := by
  subst hn
  iintro ⟨#Hp, HO, Hcr, Ha⟩
  iintro Hk
  ihave Hc := (pers_cell P K (c, .inl ())) $$ Hp
  icases Hc with ⟨#HI, #Hr⟩
  iapply (Rounds.wp_wait_rest_token 𝒱₀ ER (sched P) (c : Thread nD τ) none (κ := K (c, .inl ()))
      (wpE_semWait_eq 𝒱₀ (c : Thread nD τ) none Set.univ) (Set.mem_univ _) () (O := owed 0 c) (W := Wt) (R := 0) (m := 0) (T := ∅)
      (by rw [Nat.zero_add]; exact (expect_bar P c).symm)) $$ [Hcr HO Ha]
  · isplitr; · iexact HI
    isplitl [Hcr]; · iexact Hcr
    isplitl [HO]; · iexact HO
    isplitr
    · iapply (mayWait_owed c (.reg barS) 0 (by rw [lv_bar]; try decide))
      iapply (pers_lev P K); iexact Hp
    iexact Ha
  iintro ⟨HO, Ha, -, Hpay⟩
  imod (Rounds.cell_close ER (sched P) (Set.mem_univ (K (c, .inl ()))) (fun h => h) (R := 0 + 1) (duties_later P (barCell c))) $$ [Ha] with Hz
  · isplitr; · iexact HI
    iexact Ha
  iapply Hk
  isplitl [HO]; · iexists _; iexact HO
  isplitl [Hz]; · iexact Hz
  rw [← bar_all c]
  iapply (Entails.of_eq (rest_bar P c))
  iexact Hpay

/-! ## The products of the bands -/

/-- Two bands taken out, with the way to put two changed ones back. -/
theorem bands_two (Φ Ψ : Fin 6 → sProp 𝕄) {b₀ b₁ : Fin 6} (hb : b₀ ≠ b₁) (h : ∀ b, b ≠ b₀ → b ≠ b₁ → Φ b = Ψ b) :
    bigSep Finset.univ Φ ⊢ iprop(Φ b₀ ∗ Φ b₁ ∗ ((Ψ b₀ ∗ Ψ b₁) -∗ bigSep Finset.univ Ψ)) := by
  have hm : b₁ ∈ Finset.univ.erase b₀ := Finset.mem_erase.mpr ⟨hb.symm, Finset.mem_univ _⟩
  have he (Θ : Fin 6 → sProp 𝕄) : bigSep Finset.univ Θ
      = iprop(Θ b₀ ∗ Θ b₁ ∗ bigSep ((Finset.univ.erase b₀).erase b₁) Θ) := by
    rw [bigSep_univ_at Θ b₀, BI.bigSep_erase hm (Φ := Θ)]; rfl
  rw [he Φ, he Ψ,
    bigSep_congr (Φ := Φ) (Ψ := Ψ) fun b hb' => h b (Finset.ne_of_mem_erase (Finset.mem_of_mem_erase hb')) (Finset.ne_of_mem_erase hb')]
  iintro ⟨H0, H1, HR⟩
  isplitl [H0]; · iexact H0
  isplitl [H1]; · iexact H1
  iintro ⟨H0, H1⟩
  isplitl [H0]; · iexact H0
  isplitl [H1] <;> iassumption

/-- A product changes its stream's two bands. -/
theorem bands_dot {α : Type} {Q : α → sProp 𝕄} {kk : PUnit → Prog (TpuEff nD τ sig (Elt F) Λ₀ .tc) α} (c : Dev nD) (s : Fin 3) (d : Dev nD)
    {X : XBuf F} {Y : WBuf F} {r r' : Fin 6 → RC} {ow : Fin 2 → ℕ} {how : ∀ a, ow a + S256x1024.size a ≤ S256x2048.size a}
    {o : Fin 2 → ℕ} {ho : ∀ a, o a + (⟨2, ![sh s, 1024]⟩ : Shape).size a ≤ S2048x2048.size a} {hx h₁ h₂ h₃ h₄ h₅}
    {pay : ((⟨2, ![sh s, 256]⟩ : Shape).Idx → Elt F .f32) → (S256x1024.Idx → Elt F .f32) → (⟨2, ![sh s, 1024]⟩ : Shape).Idx → Elt F .f32}
    (hw : ow = ![0, 1024 * (hS s d).val]) (hoff : o = doff s d) (hpay : ∀ v u, pay v u = dotP s v u) (hP : P c = prod X Y)
    (hr : ∀ b, b ≠ bd s → b ≠ bd' s → r b = r' b)
    (h0 : Rg P c (bd s) (r (bd s)) ⊢ iprop(oAny c (reg (bd s) 1 d) ∗ (oAt c (reg (bd s) 1 d) (P c) -∗ Rg P c (bd s) (r' (bd s)))))
    (h1 : Rg P c (bd' s) (r (bd' s)) ⊢ iprop(oAny c (reg (bd' s) 1 d) ∗ (oAt c (reg (bd' s) 1 d) (P c) -∗ Rg P c (bd' s) (r' (bd' s))))) :
    iprop(xPt c X ∗ wPt c Y ∗ bigSep Finset.univ fun b => Rg P c b (r b))
      ⊢ iprop(((xPt c X ∗ wPt c Y ∗ bigSep Finset.univ fun b => Rg P c b (r' b)) -∗ wpc c (kk ⟨⟩) Q)
        -∗ wpc c (.op (.load xM (Rect.unit (s := S2048x256) ![so s, 0] (⟨2, ![sh s, 256]⟩ : Shape).size hx).toLoadRect h₁) fun v =>
          .op (.load wM (Rect.unit (s := S256x2048) ow S256x1024.size how).toLoadRect h₂) fun u =>
          .op (.load oM (Rect.unit (s := S2048x2048) o (⟨2, ![sh s, 1024]⟩ : Shape).size ho).toLoadRect h₃) fun _ =>
          .op (.store oM (Rect.unit (s := S2048x2048) o (⟨2, ![sh s, 1024]⟩ : Shape).size ho) (pay v u) Finset.univ h₄ h₅) kk) Q) := by
  iintro ⟨Hx, Hw, HB⟩
  iintro Hk
  ihave HB' := (bands_two (fun b => Rg P c b (r b)) (fun b => Rg P c b (r' b)) (bands_of s).2.2.1 (fun b hb hb' => by rw [hr b hb hb'])) $$ HB
  icases HB' with ⟨H0, H1, HB⟩
  ihave H0' := h0 $$ H0
  icases H0' with ⟨Ho, H0⟩
  ihave H1' := h1 $$ H1
  icases H1' with ⟨Ho', H1⟩
  iapply (dot_step c s d hw hoff hpay) $$ [Hx Hw Ho Ho']
  · isplitl [Hx]; · iexact Hx
    isplitl [Hw]; · iexact Hw
    isplitl [Ho] <;> iassumption
  iintro ⟨Hx, Hw, Ho, Ho'⟩
  iapply Hk
  isplitl [Hx]; · iexact Hx
  isplitl [Hw]; · iexact Hw
  iapply HB
  rw [← hP]
  isplitl [Ho H0]; · iapply H0; iexact Ho
  iapply H1; iexact Ho'

/-- A band's part to send, computed. -/
theorem rg_first (c : Dev nD) (b : Fin 6) {d : Dev nD} (hd : d = peer b 0 c) :
    Rg P c b .z0 ⊢ iprop(oAny c (reg b 1 d) ∗ (oAt c (reg b 1 d) (P c) -∗ Rg P c b .z1)) := by
  subst hd
  simp only [Rg]
  iintro ⟨H1, H2⟩
  isplitl [H2]; · iexact H2
  iintro H2
  isplitl [H1] <;> iassumption
theorem held_zero (c : Dev nD) (b : Fin 6) : held (F := F) c b 0 = iprop(emp) := by
  unfold held; rw [show (Finset.univ.filter fun k : Fin 3 => k.val < 0) = ∅ from by decide, bigSep_empty]; rfl
theorem slots_zero (c : Dev nD) (b : Fin 6) : slots (F := F) c b 0 = iprop(emp) := by
  unfold slots; rw [show (Finset.univ.filter fun k : Fin 3 => k.val < 0) = ∅ from by decide, bigSep_empty]; rfl
/-- A band's part to keep, computed. -/
theorem rg_keep (c : Dev nD) (b : Fin 6) {d : Dev nD} (hd : d = c) :
    Rg P c b .z2 ⊢ iprop(oAny c (reg b 1 d) ∗ (oAt c (reg b 1 d) (P c) -∗ Rg P c b (.A 0))) := by
  subst hd
  simp only [Rg]
  iintro H1
  isplitl [H1]; · iexact H1
  iintro H2
  isplitl [H2]; · iexact H2
  rw [show ((0 : Fin 3) : ℕ) = 0 from rfl, held_zero, slots_zero]
  isplitr <;> iempintro
/-- A band's part to send, sent. -/
theorem rg_sent (c : Dev nD) (b : Fin 6) :
    Rg P c b .z1 ⊢ iprop(oAt c (reg b (0 : Fin 3).succ (peer b 0 c)) (acc P (0 : Fin 3).castSucc c) ∗ Rg P c b .z2) := by
  simp only [Rg]
  iintro ⟨H1, H2⟩
  isplitl [H2]; · iexact H2
  iexact H1

/-! ## The bands before the first transfer has arrived -/

/-- After `d` products to send and `n` transfers. -/
def rcPre (d n : ℕ) (b : Fin 6) : RC := if b.val < n then .z2 else if b.val < 2 * d then .z1 else .z0
/-- After `d` products to keep. -/
def rcKeep (d : ℕ) (b : Fin 6) : RC := if b.val < 2 * d then .A 0 else .z2

theorem rcPre_other : ∀ (s : Fin 3) (b : Fin 6), b ≠ bd s → b ≠ bd' s → rcPre s.val (2 * s.val) b = rcPre (s.val + 1) (2 * s.val) b := by decide +kernel
theorem rcPre_self : ∀ s : Fin 3, rcPre s.val (2 * s.val) (bd s) = .z0 ∧ rcPre s.val (2 * s.val) (bd' s) = .z0
    ∧ rcPre (s.val + 1) (2 * s.val) (bd s) = .z1 ∧ rcPre (s.val + 1) (2 * s.val) (bd' s) = .z1 := by decide +kernel
theorem rcKeep_other : ∀ (s : Fin 3) (b : Fin 6), b ≠ bd s → b ≠ bd' s → rcKeep s.val b = rcKeep (s.val + 1) b := by decide +kernel
theorem rcKeep_self : ∀ s : Fin 3, rcKeep s.val (bd s) = .z2 ∧ rcKeep s.val (bd' s) = .z2
    ∧ rcKeep (s.val + 1) (bd s) = .A 0 ∧ rcKeep (s.val + 1) (bd' s) = .A 0 := by decide +kernel
theorem rcPre_sent : ∀ (b : Fin 6) (d : Fin 4), b.val < 2 * d.val → rcPre d.val b.val b = .z1 ∧ rcPre d.val (b.val + 1) b = .z2
    ∧ ∀ b', b' ≠ b → rcPre d.val b.val b' = rcPre d.val (b.val + 1) b' := by decide +kernel
theorem rcPre_end : rcPre 3 6 = rcKeep 0 := by funext b; revert b; decide +kernel
theorem rcKeep_end : rcKeep 3 = rcOf 0 := by funext b; revert b; decide +kernel

/-- The state with a product's operands and the bands taken out. -/
theorem St_bands (c : Dev nD) {s w x : ℕ} {r r' : Fin 6 → RC} {A B R : sProp 𝕄} :
    St P K c s w x r iprop(A ∗ B ∗ R) ⊢ iprop((A ∗ B ∗ bigSep Finset.univ fun b => Rg P c b (r b))
      ∗ ((A ∗ B ∗ bigSep Finset.univ fun b => Rg P c b (r' b)) -∗ St P K c s w x r' iprop(A ∗ B ∗ R))) := by
  unfold St
  iintro ⟨#Hp, HO, HT, HB, HA, HA', HX⟩
  isplitl [HA HA' HB]
  · isplitl [HA]; · iexact HA
    isplitl [HA'] <;> iassumption
  iintro ⟨HA, HA', HB⟩
  isplitr; · iexact Hp
  isplitl [HO]; · iexact HO
  isplitl [HT]; · iexact HT
  isplitl [HB]; · iexact HB
  isplitl [HA]; · iexact HA
  isplitl [HA'] <;> iassumption

/-- What a product to send does to the state. -/
theorem St_dot {α : Type} {Q : α → sProp 𝕄} {kk : PUnit → Prog (TpuEff nD τ sig (Elt F) Λ₀ .tc) α} (c : Dev nD) (s : Fin 3)
    {n : ℕ} {R : sProp 𝕄} {X : XBuf F} {Y : WBuf F} {ow o : Dev nD → Fin 2 → ℕ} {how : ∀ a, ow c a + S256x1024.size a ≤ S256x2048.size a}
    {ho : ∀ a, o c a + (⟨2, ![sh s, 1024]⟩ : Shape).size a ≤ S2048x2048.size a} {hx h₁ h₂ h₃ h₄ h₅}
    {pay : ((⟨2, ![sh s, 256]⟩ : Shape).Idx → Elt F .f32) → (S256x1024.Idx → Elt F .f32) → (⟨2, ![sh s, 1024]⟩ : Shape).Idx → Elt F .f32}
    (hP : P c = prod X Y) (hw : ∀ c', ow c' = ![0, 1024 * (hS s (peerS s 0 c')).val] := by decide +kernel)
    (hoff : ∀ c', o c' = doff s (peerS s 0 c') := by decide +kernel) (hpay : ∀ v u, pay v u = dotP s v u := by exact fun _ _ => rfl)
    (hk : St P K c n 0 0 (rcPre (s.val + 1) (2 * s.val)) iprop(xPt c X ∗ wPt c Y ∗ R) ⊢ wpc c (kk ⟨⟩) Q) :
    St P K c n 0 0 (rcPre s.val (2 * s.val)) iprop(xPt c X ∗ wPt c Y ∗ R)
      ⊢ wpc c (.op (.load xM (Rect.unit (s := S2048x256) ![so s, 0] (⟨2, ![sh s, 256]⟩ : Shape).size hx).toLoadRect h₁) fun v =>
          .op (.load wM (Rect.unit (s := S256x2048) (ow c) S256x1024.size how).toLoadRect h₂) fun u =>
          .op (.load oM (Rect.unit (s := S2048x2048) (o c) (⟨2, ![sh s, 1024]⟩ : Shape).size ho).toLoadRect h₃) fun _ =>
          .op (.store oM (Rect.unit (s := S2048x2048) (o c) (⟨2, ![sh s, 1024]⟩ : Shape).size ho) (pay v u) Finset.univ h₄ h₅) kk) Q := by
  obtain ⟨e1, e2, e3, e4⟩ := rcPre_self s
  refine (St_bands P K c (r' := rcPre (s.val + 1) (2 * s.val))).trans ?_
  iintro ⟨H, HSt⟩
  iapply (bands_dot P c s (peerS s 0 c) (hw c) (hoff c) hpay hP (rcPre_other s)
    (by rw [e1, e3]; exact rg_first P c _ (by unfold peer; rw [(bands_of s).1]))
    (by rw [e2, e4]; exact rg_first P c _ (by unfold peer; rw [(bands_of s).2.1]))) $$ H
  iintro H
  iapply hk
  iapply HSt
  iexact H

/-- What a product to keep does to the state. -/
theorem St_dot_keep {α : Type} {Q : α → sProp 𝕄} {kk : PUnit → Prog (TpuEff nD τ sig (Elt F) Λ₀ .tc) α} (c : Dev nD) (s : Fin 3)
    {n : ℕ} {R : sProp 𝕄} {X : XBuf F} {Y : WBuf F} {ow o : Dev nD → Fin 2 → ℕ} {how : ∀ a, ow c a + S256x1024.size a ≤ S256x2048.size a}
    {ho : ∀ a, o c a + (⟨2, ![sh s, 1024]⟩ : Shape).size a ≤ S2048x2048.size a} {hx h₁ h₂ h₃ h₄ h₅}
    {pay : ((⟨2, ![sh s, 256]⟩ : Shape).Idx → Elt F .f32) → (S256x1024.Idx → Elt F .f32) → (⟨2, ![sh s, 1024]⟩ : Shape).Idx → Elt F .f32}
    (hP : P c = prod X Y) (hw : ∀ c', ow c' = ![0, 1024 * (hS s c').val] := by decide +kernel)
    (hoff : ∀ c', o c' = doff s c' := by decide +kernel) (hpay : ∀ v u, pay v u = dotP s v u := by exact fun _ _ => rfl)
    (hk : St P K c n 0 0 (rcKeep (s.val + 1)) iprop(xPt c X ∗ wPt c Y ∗ R) ⊢ wpc c (kk ⟨⟩) Q) :
    St P K c n 0 0 (rcKeep s.val) iprop(xPt c X ∗ wPt c Y ∗ R)
      ⊢ wpc c (.op (.load xM (Rect.unit (s := S2048x256) ![so s, 0] (⟨2, ![sh s, 256]⟩ : Shape).size hx).toLoadRect h₁) fun v =>
          .op (.load wM (Rect.unit (s := S256x2048) (ow c) S256x1024.size how).toLoadRect h₂) fun u =>
          .op (.load oM (Rect.unit (s := S2048x2048) (o c) (⟨2, ![sh s, 1024]⟩ : Shape).size ho).toLoadRect h₃) fun _ =>
          .op (.store oM (Rect.unit (s := S2048x2048) (o c) (⟨2, ![sh s, 1024]⟩ : Shape).size ho) (pay v u) Finset.univ h₄ h₅) kk) Q := by
  obtain ⟨e1, e2, e3, e4⟩ := rcKeep_self s
  refine (St_bands P K c (r' := rcKeep (s.val + 1))).trans ?_
  iintro ⟨H, HSt⟩
  iapply (bands_dot P c s c (hw c) (hoff c) hpay hP (rcKeep_other s)
    (by rw [e1, e3]; exact rg_keep P c _ rfl) (by rw [e2, e4]; exact rg_keep P c _ rfl)) $$ H
  iintro H
  iapply hk
  iapply HSt
  iexact H

/-- The first transfer of a band. -/
theorem St_send {α : Type} {Q : α → sProp 𝕄} {kk : PUnit → Prog (TpuEff nD τ sig (Elt F) Λ₀ .tc) α} (c : Dev nD) (b : Fin 6) (d : Fin 4)
    {X : sProp 𝕄} {q₃ q₄ : DmaSem sig} {o' : Dev nD → Fin 2 → ℕ} {ho' : ∀ a, o' c a + (Sh b (0 : Fin 3).succ).size a ≤ S2048x2048.size a}
    {dv : Dev nD → ℕ} {hlt : dv c < nD} {dst : Memref sig (Dev.tc ⟨dv c, hlt⟩ : Thread nD τ).2.kind .vmem (Sh b (0 : Fin 3).succ) .f32} {hsc b₁ b₂ b₃}
    (hd : b.val < 2 * d.val := by decide)
    (hoff' : ∀ d, o' d = offv b (0 : Fin 3).succ (peer b 0 d) := by decide +kernel) (hdv : ∀ d, dv d = (peer b 0 d).val := by decide +kernel)
    (hdst : dst = slot 0 b := by rfl) (hq₃ : q₃ = semT false (false, 0, b) := by rfl) (hq₄ : q₄ = semT true (false, 0, b) := by rfl)
    (hk : St P K c (b.val + 1) 0 0 (rcPre d.val (b.val + 1)) X ⊢ wpc c (kk ⟨⟩) Q) :
    St P K c b.val 0 0 (rcPre d.val b.val) X
      ⊢ wpc c (.op (.enqueueDma (oM.slice (Rect.unit (s := S2048x2048) (o' c) (Sh b (0 : Fin 3).succ).size ho') (fun _ => rfl))
        (.remote (Dev.tc ⟨dv c, hlt⟩ : Thread nD τ) dst (.dma q₃) hsc) (.dma q₄) b₁ b₂ b₃) kk) Q := by
  obtain ⟨e1, e2, e3⟩ := rcPre_sent b d hd
  exact step_sendRS P K c 0 b (r' := rcPre d.val (b.val + 1)) (Fin.ext (hdv c)) hq₃ hq₄ (oSl_of (hoff' c)) hdst
    (by show 6 * 0 + b.val = b.val; omega) (Nat.zero_le _) e3 (by rw [e1, e2]; exact rg_sent P c b) hk

/-! ## From the launch to the barrier -/

/-- What device `c` holds of a transfer before the barrier. -/
def GhPre (c : Dev nD) (t : Tr) : sProp 𝕄 :=
  iprop(atPos ER (xCell false t c) 0 ∅ 0 ∗ atPos ER (xCell true t c) 0 ∅ 0
      ∗ dutyTok ER (xCell false t c) 0 0 ∗ dutyTok ER (xCell true t (peerT t c)) 0 0
      ∗ cred (tallyAt (xCell true t c) () (NTt t)))

theorem bool_split {I : Type} [Fintype I] [DecidableEq I] (Φ : Bool × I → sProp 𝕄) :
    bigSep Finset.univ Φ = iprop((bigSep Finset.univ fun i => Φ (false, i)) ∗ bigSep Finset.univ fun i => Φ (true, i)) := by
  rw [bigSep_univ_prod, bigSep_univ_at _ false, show (Finset.univ.erase false : Finset Bool) = {true} from by decide, bigSep_singleton]
theorem gh_ready_one (c : Dev nD) (t : Tr) :
    iprop(GhPre (F := F) c t ∗ if t.1 = false then sAny (peerT t c) t.2.1 t.2.2 else iprop(emp)) ⊢ Gh (F := F) c t (gh 0 0 0 t) := by
  rw [show gh 0 0 0 t = 0 from by unfold gh; rw [if_neg (Nat.not_lt_zero _), if_pos (Nat.zero_le _)]]
  unfold GhPre
  simp only [Gh]
  iintro ⟨⟨H1, H2, H3, H4, H5⟩, H6⟩
  isplitl [H1]; · iexact H1
  isplitl [H2]; · iexact H2
  isplitl [H3]; · iexact H3
  isplitl [H4]; · iexact H4
  isplitl [H5] <;> iassumption
/-- With the partners' slots it is ready to be sent. -/
theorem gh_ready (c : Dev nD) :
    iprop((bigSep Finset.univ fun t : Tr => GhPre (F := F) c t) ∗ bigSep Finset.univ fun x : Fin 3 × Fin 6 => sAny (peer x.2 x.1 c) x.1 x.2)
      ⊢ bigSep Finset.univ fun t : Tr => Gh (F := F) c t (gh 0 0 0 t) := by
  have e : (bigSep Finset.univ fun t : Tr => if t.1 = false then sAny (F := F) (peerT t c) t.2.1 t.2.2 else iprop(emp))
      = iprop((bigSep Finset.univ fun x : Fin 3 × Fin 6 => sAny (peer x.2 x.1 c) x.1 x.2) ∗ emp) := by
    rw [bool_split, bigSep_congr (Φ := fun i : Fin 3 × Fin 6 => if ((true, i) : Tr).1 = false then sAny (F := F) (peerT (true, i) c) i.1 i.2 else iprop(emp))
      (Ψ := fun _ => iprop(emp)) fun _ _ => rfl,
      show (bigSep Finset.univ fun _ : Fin 3 × Fin 6 => (iprop(emp) : sProp 𝕄)) = iprop(emp) from bigSep_emp_const _]
    rfl
  have e' := bigSep_sep' (M := 𝕄) (Φ := fun t : Tr => GhPre (F := F) c t)
    (Ψ := fun t : Tr => if t.1 = false then sAny (F := F) (peerT t c) t.2.1 t.2.2 else iprop(emp)) (s := Finset.univ)
  rw [e] at e'
  iintro ⟨H1, H2⟩
  ihave H := (Entails.of_eq e'.symm) $$ [H1 H2]
  · isplitl [H1]; · iexact H1
    isplitl; · iexact H2
    iempintro
  have hm : (bigSep Finset.univ fun t : Tr => iprop(GhPre (F := F) c t ∗ if t.1 = false then sAny (peerT t c) t.2.1 t.2.2 else iprop(emp)))
      ⊢ bigSep Finset.univ fun t : Tr => Gh (F := F) c t (gh 0 0 0 t) := bigSep_mono fun t _ => gh_ready_one c t
  iapply hm
  iexact H

/-- What device `c` starts with. -/
def Start (c : Dev nD) (X : XBuf F) (Y : WBuf F) (R : sProp 𝕄) : sProp 𝕄 :=
  iprop(pers P K ∗ (∃ Wt, owes (c : Thread nD τ) (O₀ c) Wt) ∗ cred (tallyAt (barCell c) () 3) ∗ atPos ER (barCell c) 0 ∅ 0
    ∗ (bigSep Finset.univ fun m : Fin 3 => dutyTok ER (barCell (flip m c)) 0 m) ∗ (bigSep Finset.univ fun t : Tr => GhPre c t)
    ∗ (bigSep Finset.univ fun x : Fin 3 × Fin 6 => sAny c x.1 x.2) ∗ (bigSep Finset.univ fun b : Fin 6 => Rg P c b .z0)
    ∗ xPt c X ∗ wPt c Y ∗ R)

/-- The signals, the first product, the wait for the partners. -/
theorem prologue {α : Type} {Q : α → sProp 𝕄} {kk : PUnit → Prog (TpuEff nD τ sig (Elt F) Λ₀ .tc) α} (c : Dev nD)
    {R : sProp 𝕄} {X : XBuf F} {Y : WBuf F} {dv₀ dv₁ dv₂ : Dev nD → ℕ} {hl₀ : dv₀ c < nD} {hl₁ : dv₁ c < nD} {hl₂ : dv₂ c < nD} {n₀ n₁ n₂ n₃ : ℤ}
    {ow o : Dev nD → Fin 2 → ℕ} {how : ∀ a, ow c a + S256x1024.size a ≤ S256x2048.size a}
    {ho : ∀ a, o c a + (⟨2, ![sh 0, 1024]⟩ : Shape).size a ≤ S2048x2048.size a} {hx h₁ h₂ h₃ h₄ h₅}
    {pay : ((⟨2, ![sh 0, 256]⟩ : Shape).Idx → Elt F .f32) → (S256x1024.Idx → Elt F .f32) → (⟨2, ![sh 0, 1024]⟩ : Shape).Idx → Elt F .f32}
    (hP : P c = prod X Y) (hd₀ : ∀ d, dv₀ d = (flip 0 d).val := by decide +kernel) (hd₁ : ∀ d, dv₁ d = (flip 1 d).val := by decide +kernel)
    (hd₂ : ∀ d, dv₂ d = (flip 2 d).val := by decide +kernel) (hn₀ : n₀ = ((1 : ℕ) : ℤ) := by rfl) (hn₁ : n₁ = ((1 : ℕ) : ℤ) := by rfl) (hn₂ : n₂ = ((1 : ℕ) : ℤ) := by rfl) (hn₃ : n₃ = ((3 : ℕ) : ℤ) := by rfl)
    (hw : ∀ c', ow c' = ![0, 1024 * (hS 0 (peerS 0 0 c')).val] := by decide +kernel)
    (hoff : ∀ c', o c' = doff 0 (peerS 0 0 c') := by decide +kernel) (hpay : ∀ v u, pay v u = dotP 0 v u := by exact fun _ _ => rfl)
    (hk : St P K c 0 0 0 (rcPre 1 0) iprop(xPt c X ∗ wPt c Y ∗ semVal (barCell c) 0 ∗ R) ⊢ wpc c (kk ⟨⟩) Q) :
    Start P K c X Y R
      ⊢ wpc c (.op (.semSignal ((⟨dv₀ c, hl₀⟩, .tc) : Thread nD τ) barS n₀) fun _ => .op (.semSignal ((⟨dv₁ c, hl₁⟩, .tc) : Thread nD τ) barS n₁) fun _ =>
          .op (.semSignal ((⟨dv₂ c, hl₂⟩, .tc) : Thread nD τ) barS n₂) fun _ =>
          .op (.load xM (Rect.unit (s := S2048x256) ![so 0, 0] (⟨2, ![sh 0, 256]⟩ : Shape).size hx).toLoadRect h₁) fun v =>
          .op (.load wM (Rect.unit (s := S256x2048) (ow c) S256x1024.size how).toLoadRect h₂) fun u =>
          .op (.load oM (Rect.unit (s := S2048x2048) (o c) (⟨2, ![sh 0, 1024]⟩ : Shape).size ho).toLoadRect h₃) fun _ =>
          .op (.store oM (Rect.unit (s := S2048x2048) (o c) (⟨2, ![sh 0, 1024]⟩ : Shape).size ho) (pay v u) Finset.univ h₄ h₅) fun _ =>
          .op (.semWait barS n₃) kk) Q := by
  unfold Start
  rw [by_masks, fin3, fin3]
  iintro ⟨#Hp, ⟨%Wt, HO⟩, Hcr, Ha, ⟨Ht0, Ht1, Ht2⟩, HG, ⟨Hs0, Hs1, Hs2⟩, HB, Hx, Hw, HR⟩
  iapply (signal_step P K c 0 (Fin.ext (hd₀ c)) hn₀ (O := owed 0 c + tallyAt (barCell (flip 2 c)) () 1 + tallyAt (barCell (flip 1 c)) () 1)) $$ [HO Ht0 Hs0]
  · isplitr; · iexact Hp
    isplitl [HO]; · unfold O₀; iexact HO
    isplitl [Ht0] <;> iassumption
  iintro HO
  iapply (signal_step P K c 1 (Fin.ext (hd₁ c)) hn₁ (O := owed 0 c + tallyAt (barCell (flip 2 c)) () 1)) $$ [HO Ht1 Hs1]
  · isplitr; · iexact Hp
    isplitl [HO]; · iexact HO
    isplitl [Ht1] <;> iassumption
  iintro HO
  iapply (signal_step P K c 2 (Fin.ext (hd₂ c)) hn₂ (O := owed 0 c)) $$ [HO Ht2 Hs2]
  · isplitr; · iexact Hp
    isplitl [HO]; · iexact HO
    isplitl [Ht2] <;> iassumption
  iintro HO
  iapply (bands_dot P c 0 (peerS 0 0 c) (hw c) (hoff c) hpay hP (r := rcPre 0 0) (r' := rcPre 1 0) (rcPre_other 0)
    (rg_first P c _ rfl) (rg_first P c _ rfl)) $$ [Hx Hw HB]
  · isplitl [Hx]; · iexact Hx
    isplitl [Hw]; · iexact Hw
    iexact HB
  iintro ⟨Hx, Hw, HB⟩
  iapply (barrier_step P K c hn₃) $$ [HO Hcr Ha]
  · isplitr; · iexact Hp
    isplitl [HO]; · iexact HO
    isplitl [Hcr] <;> iassumption
  iintro ⟨HO, Hz, Hs⟩
  iapply hk
  unfold St
  isplitr; · iexact Hp
  isplitl [HO]; · iexact HO
  isplitl [HG Hs]
  · iapply (gh_ready c)
    isplitl [HG] <;> iassumption
  isplitl [HB]; · iexact HB
  isplitl [Hx]; · iexact Hx
  isplitl [Hw]; · iexact Hw
  isplitl [Hz] <;> iassumption

end Cert.AllReduce

end
-- ==== Proof.Body.lean ====
/-
# The kernel's body

The whole body of the kernel on one device, step by step: the start, the first transfers with the products between
them, and then transfer after transfer in the order they are waited for.
-/
module

public import proofs.«01_k».proof.Proof.Start
public import Idealize.ShloMosaic.Lib.Pipeline.Value

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → OBuf F) (K : Dev nD × CI → ℕ)

/-- The state at bands that are the same. -/
theorem St_rc (c : Dev nD) {s w x : ℕ} {r r' : Fin 6 → RC} {X : sProp 𝕄} (h : r = r') : St P K c s w x r X ⊢ St P K c s w x r' X := by
  rw [h]

set_option maxHeartbeats 4000000 in
set_option maxRecDepth 65536 in
/-- From the start the body runs to the state in which every transfer has been waited for. -/
theorem body_run (c : Dev nD) {R : sProp 𝕄} {X : XBuf F} {Y : WBuf F} (hP : P c = prod X Y) {Kt : PUnit → sProp 𝕄}
    (hend : St P K c 36 36 0 (rcOf 36) iprop(xPt c X ∗ wPt c Y ∗ semVal (barCell c) 0 ∗ R) ⊢ Kt ⟨⟩) :
    Start P K c X Y R ⊢ wpc c (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) Kt := by
  unfold wpc
  rw [cc0_body_eq_skeleton]
  unfold cc0_body_skel
  rw [k0_part44_eq_skeleton]
  unfold k0_part44_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel
  simp only [semSignalWord, semWaitWord, Prog.lift, Prog.bind_op, Prog.bind_ret, Prog.pure_eq_ret, wp_deviceId]
  refine prologue P K c hP (hk := ?_)
  refine St_send P K c 0 1 (hk := ?_)
  refine St_send P K c 1 1 (hk := ?_)
  refine St_dot P K c 1 (ow := fun d => k0_off5 d 1#32) hP (hk := ?_)
  refine St_send P K c 2 2 (hk := ?_)
  refine St_send P K c 3 2 (hk := ?_)
  refine St_dot P K c 2 (ow := fun d => k0_off5 d 2#32) hP (hk := ?_)
  refine St_send P K c 4 3 (hk := ?_)
  refine St_send P K c 5 3 (hk := ?_)
  refine (St_rc P K c rcPre_end).trans ?_
  refine St_dot_keep P K c 0 hP (hk := ?_)
  refine St_dot_keep P K c 1 (ow := fun d => k0_off14 d 1#32) hP (hk := ?_)
  refine St_dot_keep P K c 2 (ow := fun d => k0_off14 d 2#32) hP (hk := ?_)
  refine (St_rc P K c rcKeep_end).trans ?_
  refine group_rs P K c 0 1 0 0 6 (hk := ?_)
  refine group_rs P K c 0 1 1 1 7 (hk := ?_)
  refine group_rs P K c 0 1 2 2 8 (hk := ?_)
  refine group_rs P K c 0 1 3 3 9 (hk := ?_)
  refine group_rs P K c 0 1 4 4 10 (hk := ?_)
  refine group_rs P K c 0 1 5 5 11 (hk := ?_)
  refine group_rs P K c 1 2 0 6 12 (hk := ?_)
  refine group_rs P K c 1 2 1 7 13 (hk := ?_)
  refine group_rs P K c 1 2 2 8 14 (hk := ?_)
  refine group_rs P K c 1 2 3 9 15 (hk := ?_)
  refine group_rs P K c 1 2 4 10 16 (hk := ?_)
  refine group_rs P K c 1 2 5 11 17 (hk := ?_)
  refine group_turn P K c 0 12 18 (hk := ?_)
  refine group_turn P K c 1 13 19 (hk := ?_)
  refine group_turn P K c 2 14 20 (hk := ?_)
  refine group_turn P K c 3 15 21 (hk := ?_)
  refine group_turn P K c 4 16 22 (hk := ?_)
  refine group_turn P K c 5 17 23 (hk := ?_)
  refine group_ag P K c 1 2 0 18 24 (hk := ?_)
  refine group_ag P K c 1 2 1 19 25 (hk := ?_)
  refine group_ag P K c 1 2 2 20 26 (hk := ?_)
  refine group_ag P K c 1 2 3 21 27 (hk := ?_)
  refine group_ag P K c 1 2 4 22 28 (hk := ?_)
  refine group_ag P K c 1 2 5 23 29 (hk := ?_)
  refine group_ag P K c 0 1 0 24 30 (hk := ?_)
  refine group_ag P K c 0 1 1 25 31 (hk := ?_)
  refine group_ag P K c 0 1 2 26 32 (hk := ?_)
  refine group_ag P K c 0 1 3 27 33 (hk := ?_)
  refine group_ag P K c 0 1 4 28 34 (hk := ?_)
  refine group_ag P K c 0 1 5 29 35 (hk := ?_)
  refine group_end P K c 0 30 (hk := ?_)
  refine group_end P K c 1 31 (hk := ?_)
  refine group_end P K c 2 32 (hk := ?_)
  refine group_end P K c 3 33 (hk := ?_)
  refine group_end P K c 4 34 (hk := ?_)
  refine group_end P K c 5 35 (hk := ?_)
  exact hend.trans (le_wp_ret _ _ _ _ _)

end Cert.AllReduce

end
-- ==== Proof.Ends.lean ====
/-
# Entering and leaving the exchange

A device enters with its result array and its three landing buffers whole, at any contents. The array falls apart into
the regions of the bands, the landing buffers into slots and an unused rest. When the exchange is over, the regions
make the whole array again, now holding the total, the slots make the landing buffers again, and every semaphore is
back at zero.
-/
module

public import proofs.«01_k».proof.Proof.Body
public import Idealize.ShloMosaic.Lib.Pipeline.Value

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Pieces of a buffer -/

/-- A buffer at some contents is disjoint pieces of it and the rest, each at some contents. -/
theorem pieces_open {ℓ : Loc nD τ sig} (K : Fin 6 → Finset (Idx ℓ)) (h : ∀ b b', b ≠ b' → Disjoint (K b) (K b')) :
    iprop(∃ f : Buf (Elt F) ℓ, ℓ ↦{fullShare} f)
      ⊢ (iprop((bigSep Finset.univ fun b => iprop(∃ f : Buf (Elt F) ℓ, ℓ ↦[K b]{fullShare} f))
        ∗ ∃ f : Buf (Elt F) ℓ, ℓ ↦[Finset.univ \ Finset.univ.biUnion K]{fullShare} f) : sProp 𝕄) := by
  iintro ⟨%f, H⟩
  ihave H' := (pointsTo_split_subset (f := f) (q := fullShare) (Finset.subset_univ (Finset.univ.biUnion K))).1 $$ H
  icases H' with ⟨H, Hr⟩
  isplitl [H]
  · ihave H := (Entails.of_eq (pointsTo_biUnion (f := f) (q := fullShare) Finset.univ K fun b _ b' _ => h b b')) $$ H
    have hm : (bigSep Finset.univ fun b => (ℓ ↦[K b]{fullShare} f : sProp 𝕄))
        ⊢ bigSep Finset.univ fun b => iprop(∃ f : Buf (Elt F) ℓ, ℓ ↦[K b]{fullShare} f) :=
      bigSep_mono fun b _ => show (ℓ ↦[K b]{fullShare} f : sProp 𝕄) ⊢ iprop(∃ f : Buf (Elt F) ℓ, ℓ ↦[K b]{fullShare} f) from by
        iintro H
        iexists f
        iexact H
    iapply hm
    iexact H
  · iexists f
    iexact Hr

/-- The pieces and the rest make the buffer. -/
theorem pieces_close {ℓ : Loc nD τ sig} (f₀ : Buf (Elt F) ℓ) (K : Fin 6 → Finset (Idx ℓ)) (h : ∀ b b', b ≠ b' → Disjoint (K b) (K b')) :
    (iprop((bigSep Finset.univ fun b => iprop(∃ f : Buf (Elt F) ℓ, ℓ ↦[K b]{fullShare} f))
        ∗ ∃ f : Buf (Elt F) ℓ, ℓ ↦[Finset.univ \ Finset.univ.biUnion K]{fullShare} f) : sProp 𝕄)
      ⊢ iprop(∃ f : Buf (Elt F) ℓ, ℓ ↦{fullShare} f) := by
  iintro ⟨H, ⟨%f, Hr⟩⟩
  ihave H := (bigSep_exists_pi Finset.univ fun (b : Fin 6) (f : Buf (Elt F) ℓ) => (ℓ ↦[K b]{fullShare} f : sProp 𝕄)) $$ H
  icases H with ⟨%fs, H⟩
  ihave H := (pointsTo_biUnion_join (q := fullShare) Finset.univ K fs f fun b _ b' _ => h b b') $$ H
  icases H with ⟨%g, -, H⟩
  iexists _
  iapply (pointsTo_join_subset (g := g) (f := f) (q := fullShare) (Finset.subset_univ (Finset.univ.biUnion K)))
  isplitl [H]
  · iexact H
  · iexact Hr

/-! ## The landing buffers -/

/-- Different bands use different parts of a landing buffer. -/
theorem slrect_disjoint (k : Fin 3) (b b' : Fin 6) (h : b ≠ b') : Disjoint (slrect k b).set (slrect k b').set := by
  have hs : sloff b 0 + 1 ≤ sloff b' 0 ∨ sloff b' 0 + 1 ≤ sloff b 0 ∨ sloff b 1 + rh b ≤ sloff b' 1 ∨ sloff b' 1 + rh b' ≤ sloff b 1 := by
    revert b b'; decide +kernel
  rw [Finset.disjoint_left]
  intro i hi hi'
  rw [Rect.mem_set_unit] at hi hi'
  have h0 := hi 0; have h1 := hi 1; have h0' := hi' 0; have h1' := hi' 1
  change sloff b 0 ≤ _ ∧ _ < sloff b 0 + 1 at h0
  change sloff b' 0 ≤ _ ∧ _ < sloff b' 0 + 1 at h0'
  change sloff b 1 ≤ _ ∧ _ < sloff b 1 + rh b at h1
  change sloff b' 1 ≤ _ ∧ _ < sloff b' 1 + rh b' at h1'
  omega

/-- The elements of band `b`'s slot. -/
abbrev slotSet (c : Dev nD) (k : Fin 3) (b : Fin 6) : Finset (Idx ((scrM k).view.loc (c : Thread nD τ))) := (slot k b).view.set
theorem slotSet_disjoint (c : Dev nD) (k : Fin 3) (b b' : Fin 6) (h : b ≠ b') : Disjoint (slotSet c k b) (slotSet c k b') := by
  unfold slotSet
  rw [show (slot k b).view.set = ((scrM k).view.slice (slrect k b)).set from View.set_reshape _ _,
    show (slot k b').view.set = ((scrM k).view.slice (slrect k b')).set from View.set_reshape _ _]
  rw [View.set_slice, View.set_slice]
  exact (Finset.disjoint_map _).mpr (slrect_disjoint k b b' h)

theorem sAny_eq (c : Dev nD) (k : Fin 3) (b : Fin 6) :
    (sAny c k b : sProp 𝕄)
      = iprop(∃ f : Buf (Elt F) ((scrM k).view.loc (c : Thread nD τ)), ((scrM k).view.loc (c : Thread nD τ)) ↦[slotSet c k b]{fullShare} f) := by
  refine BI.equiv_iff.mp ⟨?_, ?_⟩
  · unfold sAny sAt owns
    show iprop(∃ v, ∃ f, ⌜(slot k b).view.read (Elt F) f = v⌝ ∗ ((slot k b).view.loc (c : Thread nD τ) ↦[(slot k b).view.set]{fullShare} f)) ⊢ _
    iintro ⟨%v, %f, -, H⟩
    iexists f
    iexact H
  · unfold sAny sAt owns
    show _ ⊢ iprop(∃ v, ∃ f, ⌜(slot k b).view.read (Elt F) f = v⌝ ∗ ((slot k b).view.loc (c : Thread nD τ) ↦[(slot k b).view.set]{fullShare} f))
    iintro ⟨%f, H⟩
    iexists _, f
    isplitr
    · ipureintro; rfl
    iexact H

/-- The part of a landing buffer no band uses. -/
def scrRest (c : Dev nD) (k : Fin 3) : sProp 𝕄 :=
  iprop(∃ f : Buf (Elt F) ((scrM k).view.loc (c : Thread nD τ)),
    ((scrM k).view.loc (c : Thread nD τ)) ↦[Finset.univ \ Finset.univ.biUnion (slotSet c k)]{fullShare} f)
/-- A landing buffer at some contents. -/
def scrAny (c : Dev nD) (k : Fin 3) : sProp 𝕄 :=
  iprop(∃ f : Buf (Elt F) ((scrM k).view.loc (c : Thread nD τ)), ((scrM k).view.loc (c : Thread nD τ)) ↦{fullShare} f)

/-- A landing buffer is the bands' slots and the unused rest. -/
theorem scr_open (c : Dev nD) (k : Fin 3) : scrAny c k ⊢ (iprop((bigSep Finset.univ fun b => sAny c k b) ∗ scrRest c k) : sProp 𝕄) := by
  rw [bigSep_congr (s := Finset.univ) fun b _ => sAny_eq (F := F) c k b]
  exact pieces_open (slotSet c k) (slotSet_disjoint c k)
theorem scr_close (c : Dev nD) (k : Fin 3) : (iprop((bigSep Finset.univ fun b => sAny c k b) ∗ scrRest c k) : sProp 𝕄) ⊢ scrAny c k := by
  rw [bigSep_congr (s := Finset.univ) fun b _ => sAny_eq (F := F) c k b]
  refine BIBase.Entails.trans ?_ (pieces_close (fun _ => Classical.choice inferInstance) (slotSet c k) (slotSet_disjoint c k))
  exact .rfl

/-- All landing buffers at once, before and after. -/
theorem scrs_open (c : Dev nD) :
    (bigSep Finset.univ fun k => scrAny c k)
      ⊢ (iprop((bigSep Finset.univ fun x : Fin 3 × Fin 6 => sAny c x.1 x.2) ∗ bigSep Finset.univ fun k => scrRest c k) : sProp 𝕄) := by
  rw [bigSep_univ_prod (fun x : Fin 3 × Fin 6 => (sAny c x.1 x.2 : sProp 𝕄)), ← bigSep_sep']
  exact bigSep_mono fun k _ => scr_open c k
theorem scrs_close (c : Dev nD) :
    (iprop((bigSep Finset.univ fun x : Fin 3 × Fin 6 => sAny c x.1 x.2) ∗ bigSep Finset.univ fun k => scrRest c k) : sProp 𝕄)
      ⊢ bigSep Finset.univ fun k => scrAny c k := by
  rw [bigSep_univ_prod (fun x : Fin 3 × Fin 6 => (sAny c x.1 x.2 : sProp 𝕄)), ← bigSep_sep']
  exact bigSep_mono fun k _ => scr_close c k

/-! ## The result array -/

theorem bands_disjoint (c : Dev nD) (b b' : Fin 6) (h : b ≠ b') : Disjoint (reg b 0 c) (reg b' 0 c) := by
  have hs : ro b + rh b ≤ ro b' ∨ ro b' + rh b' ≤ ro b := by revert b b'; decide
  rw [Finset.disjoint_left]
  intro i hi hi'
  rw [mem_reg] at hi hi'
  omega
/-- The six bands are the whole array. -/
theorem bands_cover (c : Dev nD) : (Finset.univ.biUnion fun b => reg b 0 c) = Finset.univ := by
  ext i
  rw [Finset.mem_biUnion]
  refine ⟨fun _ => Finset.mem_univ _, fun _ => ?_⟩
  have h0 : (i 0).val < 2048 := (i 0).isLt
  have h1 : (i 1).val < 2048 := (i 1).isLt
  have hb : ∃ b : Fin 6, ro b ≤ (i 0).val ∧ (i 0).val < ro b + rh b := by
    by_cases a : (i 0).val < 344
    · exact ⟨0, Nat.zero_le _, a⟩
    by_cases a2 : (i 0).val < 688
    · exact ⟨1, by show 344 ≤ _; omega, by show _ < 344 + 344; omega⟩
    by_cases a3 : (i 0).val < 1032
    · exact ⟨2, by show 688 ≤ _; omega, by show _ < 688 + 344; omega⟩
    by_cases a4 : (i 0).val < 1376
    · exact ⟨3, by show 1032 ≤ _; omega, by show _ < 1032 + 344; omega⟩
    by_cases a5 : (i 0).val < 1712
    · exact ⟨4, by show 1376 ≤ _; omega, by show _ < 1376 + 336; omega⟩
    · exact ⟨5, by show 1712 ≤ _; omega, by show _ < 1712 + 336; omega⟩
  obtain ⟨b, hb⟩ := hb
  refine ⟨b, Finset.mem_univ _, ?_⟩
  rw [mem_reg]
  refine ⟨hb, ?_⟩
  show 0 ≤ _ ∧ _ < 0 + 2048
  omega

/-- The whole array is the bands. -/
theorem oAt_bands (c : Dev nD) (f : OBuf F) :
    (oAt c Finset.univ f : sProp 𝕄) = bigSep Finset.univ fun b => oAt c (reg b 0 c) f := by
  unfold oAt
  rw [← bands_cover c]
  exact pointsTo_biUnion Finset.univ _ fun b _ b' _ => bands_disjoint c b b'

section
variable (P : Dev nD → OBuf F) (K : Dev nD × CI → ℕ)

/-- The whole array, at any contents, is every band at its first moment. -/
theorem out_open (c : Dev nD) (f : OBuf F) : (oAt c Finset.univ f : sProp 𝕄) ⊢ bigSep Finset.univ fun b => Rg P c b .z0 := by
  rw [oAt_bands]
  refine bigSep_mono fun b _ => ?_
  show _ ⊢ iprop(oAny c (reg b 1 c) ∗ oAny c (reg b 1 (peer b 0 c)))
  rw [show reg b 0 c = reg b 1 c ∪ reg b 1 (peer b 0 c) from (reg_union b 0 c).symm]
  refine (oAt_union c (reg_disjoint b 0 c) f).1.trans ?_
  unfold oAny
  iintro ⟨H, H'⟩
  isplitl [H]
  · iexists f; iexact H
  · iexists f; iexact H'

/-- Every band at its last moment is the whole array, holding the total, and the slots. -/
theorem out_close (c : Dev nD) :
    (bigSep Finset.univ fun b => Rg P c b (rcOf 36 b))
      ⊢ (iprop(oAt c Finset.univ (fin P) ∗ bigSep Finset.univ fun x : Fin 3 × Fin 6 => sAny c x.1 x.2) : sProp 𝕄) := by
  have hb : ∀ b, Rg P c b (rcOf 36 b) = iprop(oAt c (reg b 0 c) (fin P) ∗ held c b 0 ∗ slots c b 3) := fun b => by
    rw [show rcOf 36 b = RC.D 0 from by revert b; decide +kernel]
    rfl
  have hs : ∀ b, (slots c b 3 : sProp 𝕄) = bigSep Finset.univ fun k => sAny c k b := fun b => by
    unfold slots
    rw [Finset.filter_true_of_mem fun k _ => k.isLt]
  rw [bigSep_congr fun b _ => hb b, oAt_bands,
    bigSep_univ_equiv (Equiv.prodComm (Fin 6) (Fin 3)) (fun x : Fin 3 × Fin 6 => (sAny c x.1 x.2 : sProp 𝕄)),
    bigSep_univ_prod, ← bigSep_sep']
  refine bigSep_mono fun b _ => ?_
  rw [hs]
  show _ ⊢ iprop(oAt c (reg b 0 c) (fin P) ∗ bigSep Finset.univ fun k => sAny c k b)
  iintro ⟨Ho, -, Hs⟩
  isplitl [Ho]
  · iexact Ho
  · iexact Hs

/-- Every transfer at its last moment is every send and receive semaphore at zero. -/
theorem gh_close (c : Dev nD) :
    (bigSep Finset.univ fun t : Tr => Gh c t (gh 36 36 0 t)) ⊢ (bigSep Finset.univ fun x : Bool × Tr => semVal (xCell x.1 x.2 c) 0 : sProp 𝕄) := by
  have hg : ∀ t : Tr, (Gh c t (gh 36 36 0 t) : sProp 𝕄) = iprop(semVal (xCell false t c) 0 ∗ semVal (xCell true t c) 0) := fun t => by
    unfold gh
    rw [if_pos (ord_lt t)]
    rfl
  rw [bigSep_congr fun t _ => hg t, bigSep_sep', bool_split (fun x : Bool × Tr => (semVal (xCell x.1 x.2 c) 0 : sProp 𝕄))]

/-- What a device leaves with. -/
theorem exit_St (c : Dev nD) (X : sProp 𝕄) :
    St P K c 36 36 0 (rcOf 36) iprop(X ∗ bigSep Finset.univ fun k => scrRest c k)
      ⊢ iprop((∃ Wt, owes (c : Thread nD τ) 0 Wt) ∗ oAt c Finset.univ (fin P) ∗ (bigSep Finset.univ fun k => scrAny c k)
        ∗ (bigSep Finset.univ fun x : Bool × Tr => semVal (xCell x.1 x.2 c) 0) ∗ X) := by
  unfold St
  rw [owed_end]
  iintro ⟨-, HO, Hg, Hr, HX, Hrest⟩
  ihave Hr := (out_close P c) $$ Hr
  icases Hr with ⟨Ho, Hs⟩
  isplitl [HO]
  · iexact HO
  isplitl [Ho]
  · iexact Ho
  isplitl [Hs Hrest]
  · iapply (scrs_close c)
    isplitl [Hs]
    · iexact Hs
    · iexact Hrest
  isplitl [Hg]
  · iapply (gh_close c)
    iexact Hg
  iexact HX

end

end Cert.AllReduce

end
-- ==== Proof.Deal.lean ====
/-
# What the launch deals out

At launch every semaphore is at zero. This file turns the semaphores of all devices into the cells of the protocol,
deals every device the right to make the signals and transfers it will make, and counts the credit its waits need.
-/
module

public import proofs.«01_k».proof.Proof.Ends
public import Idealize.ShloMosaic.Lib.Pipeline.Value

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem kcell_injective : Function.Injective (kcell : Dev nD × CI → GSem nD τ sig) := by
  rintro ⟨c, k⟩ ⟨c', k'⟩ h
  obtain rfl : c = c' := congrArg (fun g : GSem nD τ sig => g.1.1) h
  have h2 : csem k = csem k' := congrArg Prod.snd h
  rcases k with ⟨⟩ | x <;> rcases k' with ⟨⟩ | x'
  · rfl
  · cases h2
  · cases h2
  · have h3 : semT x.1 x.2 = semT x'.1 x'.2 := SemLoc.dma.inj h2
    rw [semN_inj x x' (congrArg Fin.val h3)]

/-- A token of device `c`: of its barrier along a mask, or of a send or receive semaphore. -/
abbrev TI : Type := Fin 3 ⊕ (Bool × Tr)
abbrev tokOf (cj : Dev nD × TI) : GSem nD τ sig × ℕ × Fin 3 :=
  Sum.elim (fun m => (barCell cj.1, 0, m)) (fun x => (xCell x.1 x.2 cj.1, 0, 0)) cj.2
theorem tokOf_injective : Function.Injective (tokOf : Dev nD × TI → GSem nD τ sig × ℕ × Fin 3) := by
  rintro ⟨c, j⟩ ⟨c', j'⟩ h
  rcases j with m | x <;> rcases j' with m' | x'
  · have h1 : (c, m) = (c', m') := Prod.ext (congrArg (fun y : GSem nD τ sig × ℕ × Fin 3 => y.1.1.1) h) (congrArg (fun y => y.2.2) h)
    cases h1; rfl
  · have h1 := congrArg (fun y : GSem nD τ sig × ℕ × Fin 3 => y.1.2) h
    cases h1
  · have h1 := congrArg (fun y : GSem nD τ sig × ℕ × Fin 3 => y.1.2) h
    cases h1
  · have h1 := kcell_injective (a₁ := (c, .inr x)) (a₂ := (c', .inr x')) (congrArg Prod.fst h)
    cases h1; rfl

def ringCells : Finset (GSem nD τ sig) := Finset.univ.map ⟨kcell, kcell_injective⟩
def ringToks : Finset (GSem nD τ sig × ℕ × Fin 3) := Finset.univ.map ⟨tokOf, tokOf_injective⟩

/-- The resource the launch starts from. -/
def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun m : Fin 3 => dutyTok ER (barCell c) 0 m)
    ∗ bigSep Finset.univ fun x : Bool × Tr => dutyTok ER (xCell x.1 x.2 c) 0 0)

section
variable (P : Dev nD → OBuf F)

/-- What the launch resource deals device `c`. -/
def G (c : Dev nD) : sProp 𝕄 :=
  iprop((bigSep Finset.univ fun k : CI => roundState ER (sched P) (kcell (c, k)) 0)
    ∗ (bigSep Finset.univ fun k : CI => iprop(atPos ER (kcell (c, k)) 0 ∅ 0 ∗ reached ER (kcell (c, k)) 0)) ∗ toks c)

/-- The cells' invariants and that every cell is at its round. -/
def records (K : Dev nD × CI → ℕ) : sProp 𝕄 :=
  bigSep Finset.univ fun ck : Dev nD × CI => iprop(cellInv ER (sched P) (K ck) (kcell ck) ∗ reached ER (kcell ck) 0)
instance records_persistent (K : Dev nD × CI → ℕ) : BI.Persistent (records P K) := by unfold records; infer_instance

/-- The tokens of the signals and transfers device `c` makes. -/
def pay (c : Dev nD) : sProp 𝕄 :=
  iprop((bigSep Finset.univ fun m : Fin 3 => dutyTok ER (barCell (flip m c)) 0 m)
    ∗ (bigSep Finset.univ fun t : Tr => dutyTok ER (xCell false t c) 0 0)
    ∗ bigSep Finset.univ fun t : Tr => dutyTok ER (xCell true t (peerT t c)) 0 0)
/-- What is device `c`'s alone: its positions and those tokens. -/
def linear (c : Dev nD) : sProp 𝕄 := iprop((bigSep Finset.univ fun k : CI => atPos ER (kcell (c, k)) 0 ∅ 0) ∗ pay c)
/-- What the allocation of the cells makes of it. -/
def G' (c : Dev nD) : sProp 𝕄 := iprop(∃ K, records P K ∗ linear c)

theorem fund_ring : BI.own (ER (initOf ringCells ringToks)) ⊢ (|==> bigSep Finset.univ (G P) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (sched P) ringCells ringToks) $$ HX with ⟨Hst, Hr, Hat, Htok⟩
  imodintro
  ihave Hst' := (Entails.of_eq (hX fun g => roundState ER (sched P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become cells -/

/-- The kernel's own semaphores are those of the transfers; -/
theorem ownSems0_eq (c : Dev nD) : (Pipeline.ownSems0 (Ix := Unit) (Name := ℕ) (U := UU) (Lvl := ℕ) (Val := Elt F) (τ := τ) osem c : sProp 𝕄)
    = bigSep Finset.univ fun x : Bool × Tr => semVal (xCell x.1 x.2 c) 0 := rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sep_unit (Φ : CI → sProp 𝕄) : bigSep Finset.univ Φ = iprop(Φ (.inl ()) ∗ bigSep Finset.univ fun x : Bool × Tr => Φ (.inr x)) := by
  rw [bigSep_univ_sum, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k => iprop(∃ κ : ℕ, cellInv ER (sched P) κ (kcell (c, k))))
          ∗ (bigSep Finset.univ fun k => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  imod (show iprop((bigSep Finset.univ fun k : CI => semVal (kcell (c, k)) 0) ∗ bigSep Finset.univ fun k : CI => roundState ER (sched P) (kcell (c, k)) 0)
      ⊢ (|={Set.univ}=> bigSep Finset.univ fun k => iprop(∃ κ : ℕ, cellInv ER (sched P) κ (kcell (c, k))) : sProp 𝕄) from by
        rw [← bigSep_sep']
        exact (bigSep_mono fun k _ => (Rounds.body_intro ER (sched P) (kcell (c, k))).trans inv_alloc).trans (bigSep_fupd _ _)) $$ [Hos Hus Hst] with Hinv
  · isplitr [Hst]
    · rw [sep_unit]
      isplitl [Hus]
      · iexact Hus
      · iexact Hos
    · iexact Hst
  imodintro
  isplitl [Hinv]; · iexact Hinv
  isplitl [Hat]; · iexact Hat
  iexact Htok

/-- A family over devices and something else, read at other devices by a permutation for each of the something else. -/
theorem around {I : Type} [Fintype I] [DecidableEq I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [← bigSep_univ_prod (fun ci : Dev nD × I => Φ ci.1 ci.2), ← bigSep_univ_prod (fun ci : Dev nD × I => Φ (e ci.2 ci.1) ci.2)]
  exact bigSep_univ_equiv (⟨fun ci => (e ci.2 ci.1, ci.2), fun ci => ((e ci.2).symm ci.1, ci.2), fun ci => by simp, fun ci => by simp⟩ : Dev nD × I ≃ Dev nD × I)
    (fun ci : Dev nD × I => Φ ci.1 ci.2)

/-- The tokens go to the devices that pay with them. -/
theorem toks_around : (bigSep Finset.univ fun c : Dev nD => (toks c : sProp 𝕄)) ⊢ bigSep Finset.univ fun c : Dev nD => pay c := by
  have h : ∀ c : Dev nD, (toks c : sProp 𝕄) = iprop((bigSep Finset.univ fun m : Fin 3 => dutyTok ER (barCell c) 0 m)
      ∗ (bigSep Finset.univ fun t : Tr => dutyTok ER (xCell false t c) 0 0) ∗ bigSep Finset.univ fun t : Tr => dutyTok ER (xCell true t c) 0 0) := fun c => by
    unfold toks
    rw [bool_split (fun x : Bool × Tr => (dutyTok ER (xCell x.1 x.2 c) 0 0 : sProp 𝕄))]
  rw [bigSep_congr fun c _ => h c]
  unfold pay
  rw [bigSep_sep', bigSep_sep', bigSep_sep', bigSep_sep',
    around flipE (fun c m => (dutyTok ER (barCell c) 0 m : sProp 𝕄)),
    around peerTE (fun c t => (dutyTok ER (xCell true t c) 0 0 : sProp 𝕄))]
  exact Entails.of_eq rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched P) κ (kcell (c, k))))
          ∗ (bigSep Finset.univ fun k => iprop(atPos ER (kcell (c, k)) 0 ∅ 0 ∗ reached ER (kcell (c, k)) 0)) ∗ toks c) : sProp 𝕄)
      ⊢ bigSep Finset.univ (G' P) := by
  rw [bigSep_sep', bigSep_sep', ← bigSep_univ_prod (fun ck : Dev nD × CI => iprop(∃ κ : ℕ, cellInv ER (sched P) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched P) κ (kcell ck) : sProp 𝕄))) $$ HI
  icases HK with ⟨%K, #HI⟩
  ihave Htk := (toks_around (F := F)) $$ Htok
  have hG : ∀ c ∈ (Finset.univ : Finset (Dev nD)), iprop(records P K ∗ linear c) ⊢ G' P c := fun c _ => by
    unfold G'
    iintro H
    iexists K
    iexact H
  iapply (bigSep_with_persistent (R := records P K) hG)
  isplitr
  · unfold records
    rw [bigSep_sep']
    isplitl
    · iexact HI
    · iexact HR
  · unfold linear
    rw [bigSep_sep']
    isplitl [Hat]
    · iexact Hat
    · iexact Htk

/-- Every device's semaphores become its cells, all at once. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

end

/-! ## The credit of the waits -/

theorem bar_eq_iff {a b : Dev nD} : Iff (barCell a = barCell b) (a = b) :=
  ⟨fun h => congrArg (fun g : GSem nD τ sig => g.1.1) h, fun h => h ▸ rfl⟩
theorem x_eq_iff {r r' : Bool} {t t' : Tr} {a b : Dev nD} : Iff (xCell r t a = xCell r' t' b) (r = r' ∧ t = t' ∧ a = b) :=
  ⟨fun h => by
    have h1 := kcell_injective (a₁ := (a, .inr (r, t))) (a₂ := (b, .inr (r', t'))) h
    cases h1; exact ⟨rfl, rfl, rfl⟩, fun ⟨h1, h2, h3⟩ => by subst h1 h2 h3; rfl⟩
theorem bar_ne_x {r : Bool} {t : Tr} {a b : Dev nD} : barCell a ≠ xCell r t b := fun h => by
  have := congrArg Prod.snd h
  cases this

theorem owed_at_bar (d c : Dev nD) : owed 0 d (barCell c) () = 0 := by
  by_contra h
  obtain ⟨t, -, ht⟩ := owed_pos (Nat.pos_of_ne_zero h)
  exact bar_ne_x ht
theorem owed_at_x (d c : Dev nD) (t : Tr) : owed 0 d (xCell true t c) () = if d = peerT t c then NTt t else 0 := by
  unfold owed
  rw [Finset.filter_true_of_mem fun _ _ => Nat.zero_le _, Finset.sum_apply, Finsupp.finset_sum_apply,
    Finset.sum_eq_single t]
  · rw [tallyAt_apply]
    by_cases h : d = peerT t c
    · rw [if_pos h, if_pos]
      rw [h, peerT_peerT]
      exact ⟨rfl, rfl⟩
    · rw [if_neg h, if_neg]
      rintro ⟨h', -⟩
      apply h
      rw [(x_eq_iff.mp h').2.2, peerT_peerT]
  · intro t' _ hne
    rw [tallyAt_apply, if_neg]
    rintro ⟨h', -⟩
    exact hne (x_eq_iff.mp h').2.1.symm
  · intro h
    exact absurd (Finset.mem_univ _) h

theorem bar_unit (d c : Dev nD) (m : Fin 3) :
    (tallyAt (barCell (flip m d)) () 1 : CellTallies nD τ sig Unit) (barCell c) () = if d = flip m c then 1 else 0 := by
  rw [tallyAt_apply]
  by_cases h : d = flip m c
  · rw [if_pos h, if_pos]
    rw [h, flip_flip]
    exact ⟨rfl, rfl⟩
  · rw [if_neg h, if_neg]
    rintro ⟨h', -⟩
    apply h
    rw [bar_eq_iff.mp h', flip_flip]

/-- What device `d` owes device `c`'s barrier. -/
theorem O₀_bar (d c : Dev nD) :
    O₀ d (barCell c) () = (if d = flip 2 c then 1 else 0) + (if d = flip 1 c then 1 else 0) + (if d = flip 0 c then 1 else 0) := by
  unfold O₀
  rw [Pi.add_apply, Finsupp.add_apply, Pi.add_apply, Finsupp.add_apply, Pi.add_apply, Finsupp.add_apply, owed_at_bar, Nat.zero_add,
    bar_unit, bar_unit, bar_unit]
/-- What device `d` owes device `c`'s receive cell of transfer `t`. -/
theorem O₀_x (d c : Dev nD) (t : Tr) : O₀ d (xCell true t c) () = if d = peerT t c then NTt t else 0 := by
  unfold O₀
  rw [Pi.add_apply, Finsupp.add_apply, Pi.add_apply, Finsupp.add_apply, Pi.add_apply, Finsupp.add_apply, owed_at_x,
    tallyAt_ne_cell bar_ne_x.symm, tallyAt_ne_cell bar_ne_x.symm, tallyAt_ne_cell bar_ne_x.symm]
  rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ (flip 2 c) fun _ => 1, Finset.sum_ite_eq' Finset.univ (flip 1 c) fun _ => 1,
    Finset.sum_ite_eq' Finset.univ (flip 0 c) fun _ => 1, if_pos (Finset.mem_univ _), if_pos (Finset.mem_univ _), if_pos (Finset.mem_univ _)]
theorem launch_x (c : Dev nD) (t : Tr) :
    tallyOn (xCell true t c) (launchCredit (Pipeline.owing O₀) 0 (xCell true t c)) = (tallyAt (xCell true t c) () (NTt t) : CellTallies nD τ sig Unit) := by
  unfold tallyAt; refine congrArg _ (Finsupp.ext fun u => ?_); cases u
  rw [Pipeline.launchCredit_owing, Finsupp.single_eq_same, Finset.sum_congr rfl fun d _ => O₀_x d c t, Finset.sum_ite_eq' Finset.univ (peerT t c) fun _ => NTt t,
    if_pos (Finset.mem_univ _)]

/-- The credit device `c` starts with. -/
theorem creds (c : Dev nD) :
    (Pipeline.launchCred O₀ c : sProp 𝕄)
      ⊢ iprop(cred (tallyAt (barCell c) () 3) ∗ bigSep Finset.univ fun t : Tr => cred (tallyAt (xCell true t c) () (NTt t))) := by
  unfold Pipeline.launchCred
  rw [bigSep_univ_at _ (SemLoc.reg barS), launch_bar]
  refine sep_mono_right ?_
  have hinj : Function.Injective fun t : Tr => (SemLoc.dma (semT true t) : SemLoc sig) := fun t t' h =>
    (x_eq_iff.mp (show xCell true t c = xCell true t' c from Prod.ext rfl h)).2.1
  have hsub : (Finset.univ.map ⟨_, hinj⟩ : Finset (SemLoc sig)) ⊆ Finset.univ.erase (SemLoc.reg barS) := by
    intro s hs
    obtain ⟨t, -, rfl⟩ := Finset.mem_map.mp hs
    exact Finset.mem_erase.mpr ⟨fun h => (by cases h), Finset.mem_univ _⟩
  refine (BI.bigSep_subset hsub).trans ?_
  rw [bigSep_map]
  exact Entails.of_eq (bigSep_congr fun t _ => congrArg (fun x => (cred x : sProp 𝕄)) (launch_x c t))

end Cert.AllReduce

end
-- ==== Proof.Run.lean ====
/-
# The run

Every execution of the kernel on the eight devices terminates, whatever the floats are; every device's result array then
holds the total of the devices' products, its arguments are unchanged, and every semaphore is at zero.
-/
module

public import proofs.«01_k».proof.Proof.Deal
public import Idealize.ShloMosaic.Lib.Pipeline.Value
public import Idealize.ShloMosaic.Lib.Pipeline.CollectiveSegs

@[expose] public section

set_option maxRecDepth 16384

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The machine at launch. -/
def s₀ : MemSt nD τ sig (Elt F) := ⟨m, fun _ => 0, ρ⟩

/-- What device `c`'s operands are staged as. -/
def xstg (c : Dev nD) : XBuf F := (win0_0.blk (0 : Fin 1)).view.read (Elt F) ((s₀ m ρ).mem ((c : Thread nD τ).loc main_arg0))
def wstg (c : Dev nD) : WBuf F := (win0_1.blk (0 : Fin 1)).view.read (Elt F) ((s₀ m ρ).mem ((c : Thread nD τ).loc main_arg1))
/-- Device `c`'s product. -/
def prods (c : Dev nD) : OBuf F := prod (xstg m ρ c) (wstg m ρ c)

/-! ## Before and after the body -/

/-- What device `c` starts from. -/
def start (c : Dev nD) : sProp 𝕄 :=
  iprop(G' (prods m ρ) c ∗ (cred (tallyAt (barCell c) () 3) ∗ bigSep Finset.univ fun t : Tr => cred (tallyAt (xCell true t c) () (NTt t))) ∗ levAts L lv)
/-- Before the body: that and the landing buffers. -/
def Φ₀ (c : Dev nD) : sProp 𝕄 := iprop(start m ρ c ∗ bigSep Finset.univ fun k => scrAny c k)
/-- After the body: the landing buffers, every semaphore at zero. -/
def Φ₁ (c : Dev nD) : sProp 𝕄 :=
  iprop((bigSep Finset.univ fun k => scrAny c k) ∗ (bigSep Finset.univ fun x : Bool × Tr => semVal (xCell x.1 x.2 c) 0) ∗ semVal (barCell c) 0)

/-- The pipeline's proof data: one point, the result array afterwards the total. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => fin (prods m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with. -/
def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
/-- What it is left with. -/
def bodyPost (c : Dev nD) : sProp 𝕄 :=
  iprop(Φ₁ c ∗ (dats m ρ 0 c).owesAt () t₀.succ ∗ stg c cc0_stg0_0 (xstg m ρ c) ∗ stg c cc0_stg1_0 (wstg m ρ c)
    ∗ stg c cc0_stg2_0 (fin (prods m ρ)))

/-- What a device's own resources make of the transfers before the barrier. -/
theorem ghPre_intro (c : Dev nD) :
    iprop((bigSep Finset.univ fun x : Bool × Tr => atPos ER (xCell x.1 x.2 c) 0 ∅ 0)
        ∗ (bigSep Finset.univ fun t : Tr => dutyTok ER (xCell false t c) 0 0)
        ∗ (bigSep Finset.univ fun t : Tr => dutyTok ER (xCell true t (peerT t c)) 0 0)
        ∗ bigSep Finset.univ fun t : Tr => cred (tallyAt (xCell true t c) () (NTt t)))
      ⊢ (bigSep Finset.univ fun t : Tr => GhPre c t : sProp 𝕄) := by
  unfold GhPre
  rw [bigSep_sep', bigSep_sep', bigSep_sep', bigSep_sep', bool_split (fun x : Bool × Tr => (atPos ER (xCell x.1 x.2 c) 0 ∅ 0 : sProp 𝕄))]
  iintro ⟨⟨H1, H2⟩, H3, H4, H5⟩
  isplitl [H1]; · iexact H1
  isplitl [H2]; · iexact H2
  isplitl [H3]; · iexact H3
  isplitl [H4] <;> iassumption

/-- The body is entered in the state the exchange starts from. -/
theorem pre_start (c : Dev nD) :
    bodyPre m ρ c ⊢ iprop(∃ K, Start (prods m ρ) K c (xstg m ρ c) (wstg m ρ c) (bigSep Finset.univ fun k => scrRest c k)) := by
  unfold bodyPre Φ₀ start G' linear pay Start
  iintro ⟨⟨⟨⟨%K, #Hrec, Hat, HtB, HtS, HtV⟩, ⟨HcB, HcV⟩, #Hlev⟩, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  ihave Hat' := (Entails.of_eq (sep_unit fun k : CI => (atPos ER (kcell (c, k)) 0 ∅ 0 : sProp 𝕄))) $$ Hat
  icases Hat' with ⟨HaB, HaX⟩
  ihave Hs := (scrs_open c) $$ Hscr
  icases Hs with ⟨Hsl, Hrest⟩
  iexists K
  isplitr
  · unfold pers
    isplitl
    · unfold records; iexact Hrec
    · iexact Hlev
  isplitl [HO]; · iexists W; iexact HO
  isplitl [HcB]; · iexact HcB
  isplitl [HaB]; · iexact HaB
  isplitl [HtB]; · iexact HtB
  isplitl [HaX HtS HtV HcV]
  · iapply (ghPre_intro c)
    isplitl [HaX]; · iexact HaX
    isplitl [HtS]; · iexact HtS
    isplitl [HtV] <;> iassumption
  isplitl [Hsl]; · iexact Hsl
  isplitl [Hout]
  · iapply (out_open (prods m ρ) c g2)
    unfold oAt
    iexact Hout
  isplitl [Hx]; · unfold xPt; iexact Hx
  isplitl [Hw]; · unfold wPt; iexact Hw
  iexact Hrest

/-- The state the exchange ends in is what the body is left with. -/
theorem end_post (K : Dev nD × CI → ℕ) (c : Dev nD) :
    St (prods m ρ) K c 36 36 0 (rcOf 36)
        iprop(xPt c (xstg m ρ c) ∗ wPt c (wstg m ρ c) ∗ semVal (barCell c) 0 ∗ bigSep Finset.univ fun k => scrRest c k)
      ⊢ bodyPost m ρ c := by
  have h : iprop(xPt c (xstg m ρ c) ∗ wPt c (wstg m ρ c) ∗ semVal (barCell c) 0 ∗ bigSep Finset.univ fun k => scrRest c k)
      ⊢ (iprop((xPt c (xstg m ρ c) ∗ wPt c (wstg m ρ c) ∗ semVal (barCell c) 0) ∗ bigSep Finset.univ fun k => scrRest c k) : sProp 𝕄) := by
    iintro ⟨H1, H2, H3, H4⟩
    isplitl [H1 H2 H3]
    · isplitl [H1]; · iexact H1
      isplitl [H2] <;> iassumption
    iexact H4
  have h' := (sep_mono_right (sep_mono_right (sep_mono_right (sep_mono_right h)))).trans (exit_St (prods m ρ) K c _)
  refine (show St (prods m ρ) K c 36 36 0 (rcOf 36) _ ⊢ _ from h').trans ?_
  unfold bodyPost Φ₁ Dat.owesAt Pipeline.owesWithin
  rw [show (dats m ρ 0 c).owed t₀.succ = 0 from rfl]
  iintro ⟨⟨%W, HO⟩, Ho, Hscr, Hsem, Hx, Hw, HzB⟩
  isplitl [Hscr Hsem HzB]
  · isplitl [Hscr]; · iexact Hscr
    isplitl [Hsem] <;> iassumption
  isplitl [HO]
  · iexists W
    isplitr; · ipureintro; exact fun _ _ => Or.inl trivial
    iexact HO
  isplitl [Hx]
  · iexists _; isplitr; · (ipureintro; rfl)
    unfold xPt; iexact Hx
  isplitl [Hw]
  · iexists _; isplitr; · (ipureintro; rfl)
    unfold wPt; iexact Hw
  iexists _; isplitr; · (ipureintro; rfl)
  unfold oAt; iexact Ho

set_option maxRecDepth 16384 in
/-- The body on device `c` does what the pipeline expects of it. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wpc c (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)
  refine (pre_start m ρ c).trans ?_
  iintro ⟨%K, H⟩
  iapply (body_run (prods m ρ) K c (R := bigSep Finset.univ fun k => scrRest c k) (X := xstg m ρ c) (Y := wstg m ρ c) rfl (end_post m ρ K c))
  iexact H

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (prods m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The scoped buffers beside the staging buffers are the landing buffers. -/
theorem scoped_eq (c : Dev nD) : (Pipeline.scopedRest cfg0.spec c : sProp 𝕄) = bigSep Finset.univ fun k => scrAny c k := by
  rw [scopedRest0_eq, fin3]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scoped_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scoped_eq, ownSems0_eq, unscopedSems0_eq]
  unfold Φ₁
  iintro ⟨Hr, Hz, HzB⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Every weakly fair execution on the eight devices, from any memory with the semaphores at zero, terminates without a
    fault; the windows' arrays end as `finalA` says and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prods m ρ)) (G' := G' (prods m ρ)) (u₀ := u₀)
    (hu₀ := by
      unfold u₀
      iintro Hu
      ihave H := (ownU_pair _ _) $$ Hu
      icases H with ⟨HP, HX⟩
      imod (fund_ring (prods m ρ)) $$ HX with HG
      imodintro
      isplitl [HP] <;> iassumption)
    (hglob := glob (prods m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they were. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.AllReduce

end
-- ==== Proof.Final.lean ====
/-
# What the run leaves, read off

The result array holds the total of the devices' products of their own arguments, and the kernel's two printings
(as it stands, and for reading over exact numbers) are the same program.
-/
module

public import proofs.«01_k».proof.Proof.Gen.Kernel
public import proofs.«01_k».proof.Proof.Run
public import Idealize.ShloMosaic.Lib.Pipeline.ValueKit

@[expose] public section

set_option maxRecDepth 65536

noncomputable section

namespace Cert.AllReduce

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The staged first operand is the device's first argument. -/
theorem xstg_eq (c : Dev nD) : xstg m ρ c = m ((c : Thread nD τ).loc main_arg0) := by
  unfold xstg s₀
  funext j
  blk_simp
  refine congrArg (m ((c : Thread nD τ).loc main_arg0)) (funext fun a => Fin.ext ?_)
  exact win0_0.rect_emb_val_of_index_zero (0 : Fin 1) a (by revert a; decide +kernel) j

/-- The staged second operand is the device's second argument. -/
theorem wstg_eq (c : Dev nD) : wstg m ρ c = m ((c : Thread nD τ).loc main_arg1) := by
  unfold wstg s₀
  funext j
  blk_simp
  refine congrArg (m ((c : Thread nD τ).loc main_arg1)) (funext fun a => Fin.ext ?_)
  exact win0_1.rect_emb_val_of_index_zero (0 : Fin 1) a (by revert a; decide +kernel) j

/-- The result array ends at the total of the products. -/
theorem finalA_out (c : Dev nD) :
    finalA m ρ c (2 : Fin 3) = fin fun d => prod (m ((d : Thread nD τ).loc main_arg0)) (m ((d : Thread nD τ).loc main_arg1)) := by
  have h : finalA m ρ c (2 : Fin 3) = fin (prods m ρ) := by
    unfold finalA
    refine (dats m ρ 0 c).arrAt_eq_of_after_last 2 t₀ (by decide +kernel) _ fun j => ?_
    blk_simp
    rfl
  rw [h]
  refine congrArg fin (funext fun d => ?_)
  unfold prods
  rw [xstg_eq, wstg_eq]

/-- Every run ends with the two arguments unchanged and every semaphore at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
    ⟨(h.1 c (0 : Fin 3)).trans (finalA_x m ρ c), (h.1 c (1 : Fin 3)).trans (finalA_w m ρ c)⟩, h.2⟩) (run_main m ρ)

/-- Every run ends with the total in the result array, and the arguments unchanged. -/
theorem run_total : θ_run defs (onTc (τ := τ) (main (F := F))) (s₀ m ρ) (fun r => ∀ c : Dev nD,
      r.2.mem ((c.tc : Thread nD τ).loc main_v1)
        = fin (fun d => prod (m ((d : Thread nD τ).loc main_arg0)) (m ((d : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (finalA_out m ρ c),
    (h.1 c (0 : Fin 3)).trans (finalA_x m ρ c), (h.1 c (1 : Fin 3)).trans (finalA_w m ρ c)⟩) (run_main m ρ)

/-! ## The two printings -/

attribute [local instance] Cert.Kernel.Gen.facts Cert.KernelIdeal.Gen.facts

/-- Both printings have the same main program. -/
theorem main_same : Cert.Kernel.main (F := F) = Cert.KernelIdeal.main (F := F) := by sl_kernel_rfl
/-- Both printings have the same bodies. -/
theorem defs_same : Cert.Kernel.defs (F := F) = Cert.KernelIdeal.defs (F := F) := by sl_kernel_rfl

end Cert.AllReduce

end
-- ==== Proof.Value.lean ====
/-
# What the total is, over exact numbers

Over the extended reals the total of the eight devices' products of their blocks is the product of the whole arrays:
every step of the exchange adds the partner's partial sum, the eight partial sums an element collects come from eight
different devices, and the contracted axis is the eight devices' parts of it one after another.
-/
module

public import proofs.«01_k».proof.Proof.Dots
public import proofs.«01_k».proof.Proof.Gen.ReferenceIdeal
public import Idealize.ShloMosaic.Lib.Pointwise
public import Idealize.ShloMosaic.Lib.Layout

@[expose] public section

noncomputable section

namespace Cert.AllReduce

open Cert.KernelIdeal Cert.KernelIdeal.Gen
open Idealize.ShloMosaic

/-! ## Products -/

/-- One product at an element: the sum over the device's part of the contracted axis. -/
theorem dotP_apply (s : Fin 3) (v : (⟨2, ![sh s, 256]⟩ : Shape).Idx → Elt Ideal .f32) (u : S256x1024.Idx → Elt Ideal .f32)
    (j : (⟨2, ![sh s, 1024]⟩ : Shape).Idx) :
    dotP (F := Ideal) s v u j = ∑ k : Fin 256, (v (ix2 (j 0) k) * u (ix2 k (j 1)) : EReal) := by
  fin_cases s
  · show k0_pay1 (F := Ideal) v u j = _
    unfold k0_pay1
    pointwise
  · show k0_pay2 (F := Ideal) v u j = _
    unfold k0_pay2
    pointwise
  · show k0_pay3 (F := Ideal) v u j = _
    unfold k0_pay3
    pointwise

/-- An element's row lies in its stream. -/
theorem stI_row (i : S2048x2048.Idx) : so (stI i) + ((i 0).val - so (stI i)) % sh (stI i) = (i 0).val := by
  have h0 : (i 0).val < 2048 := (i 0).isLt
  unfold stI
  split_ifs <;> simp only [so, sh, Matrix.cons_val] <;> omega

/-- An element's column lies in its half. -/
theorem hI_col (i : S2048x2048.Idx) : 1024 * (hI i).val + (i 1).val % 1024 = (i 1).val := by
  have h1 : (i 1).val < 2048 := (i 1).isLt
  unfold hI
  split_ifs <;> simp <;> omega

/-- A device's product of its blocks at an element, whichever of the six products that element is in. -/
theorem prod_apply (X : S2048x256.Idx → EReal) (Y : S256x2048.Idx → EReal) (i : S2048x2048.Idx) :
    (prod (F := Ideal) X Y i : EReal) = (∑ k : Fin 256, X (ix2 (i 0) k) * Y (ix2 k (i 1)) : EReal) := by
  refine (dotP_apply (stI i) _ _ _).trans ?_
  refine Finset.sum_congr rfl fun k _ => congrArg₂ (· * ·) (congrArg X (funext fun a => Fin.ext ?_)) (congrArg Y (funext fun a => Fin.ext ?_))
  · match a with
    | 0 => exact (by omega : ∀ a b c : ℕ, a + b = c → a + 1 * b = c) _ _ _ (stI_row i)
    | 1 => exact (by omega : ∀ b : ℕ, 0 + 1 * b = b) _
  · match a with
    | 0 => exact (by omega : ∀ b : ℕ, 0 + 1 * b = b) _
    | 1 => exact (by omega : ∀ a b c : ℕ, a + b = c → a + 1 * b = c) _ _ _ (hI_col i)

/-! ## The total -/

/-- The eight devices whose products meet in one element of stream `s` on device `c`: all of them. -/
theorem met_all (s : Fin 3) (c : Dev nD) :
    ([c, peerS s 0 c, peerS s 1 c, peerS s 0 (peerS s 1 c), peerS s 2 c, peerS s 0 (peerS s 2 c), peerS s 1 (peerS s 2 c),
      peerS s 0 (peerS s 1 (peerS s 2 c))] : List (Fin 8)).Perm (List.finRange 8) := by
  revert s c; decide +kernel

/-- The total at an element is the sum of all devices' products there. -/
theorem fin_apply (P : Dev nD → S2048x2048.Idx → EReal) (i : S2048x2048.Idx) : (fin (F := Ideal) P i : EReal) = (∑ c : Fin 8, P c i : EReal) := by
  rw [Fin.sum_univ_def, ← ((met_all (stI i) (ownI i)).map fun c => P c i).sum_eq]
  show ((P _ i + P _ i) + (P _ i + P _ i)) + ((P _ i + P _ i) + (P _ i + P _ i)) = _
  simp only [List.map_cons, List.map_nil, List.sum_cons, List.sum_nil, add_zero, add_assoc]

/-- The reference's product at an element. -/
theorem ref_apply (X Y : Cert.ReferenceIdeal.S2048x2048.Idx → Elt Ideal .f32) (i : Cert.ReferenceIdeal.S2048x2048.Idx) :
    Host.dotGeneral (F := Ideal) (φ₁ := .f32) (φ₂ := .f32) Cert.ReferenceIdeal.dot_S2048x2048_S2048x2048_S2048x2048_1_0_0_1_n_n none X Y i
      = ∑ k : Fin 2048, (X (ix2 (i 0) k) * Y (ix2 k (i 1)) : EReal) := by
  pointwise

/-- If every device holds its columns of `X` and its rows of `Y`, the total of the devices' products is the product of
    `X` and `Y`. -/
theorem total (X Y : Cert.ReferenceIdeal.S2048x2048.Idx → Elt Ideal .f32) (x : Dev nD → XBuf Ideal) (w : Dev nD → WBuf Ideal)
    (hx : ∀ c : Fin 8, x c = Layout.block ⟨2, ![2048, 256]⟩ ⟨2, ![2048, 2048]⟩ 1 8 c X)
    (hw : ∀ c : Fin 8, w c = Layout.block ⟨2, ![256, 2048]⟩ ⟨2, ![2048, 2048]⟩ 0 8 c Y) :
    fin (fun c => prod (x c) (w c))
      = Host.dotGeneral (F := Ideal) (φ₁ := .f32) (φ₂ := .f32) Cert.ReferenceIdeal.dot_S2048x2048_S2048x2048_S2048x2048_1_0_0_1_n_n none X Y := by
  funext i
  refine (fin_apply (fun c => prod (x c) (w c)) i).trans (Eq.trans ?_ (ref_apply X Y i).symm)
  refine Eq.trans ?_ (Equiv.sum_comp (finProdFinEquiv (m := 8) (n := 256)) (fun k : Fin 2048 => (X (ix2 (i 0) k) * Y (ix2 k (i 1)) : EReal)))
  rw [Fintype.sum_prod_type]
  refine Finset.sum_congr (M := EReal) rfl fun c _ => ?_
  refine (prod_apply (x c) (w c) i).trans ?_
  rw [hx, hw]
  refine Finset.sum_congr (M := EReal) rfl fun k _ => congrArg₂ (· * ·) (congrArg X (funext fun a => Fin.ext ?_)) (congrArg Y (funext fun a => Fin.ext ?_))
  · match a with
    | 0 => rfl
    | 1 => exact (by omega : ∀ b d : ℕ, b * 256 + d = d + 256 * b) _ _
  · match a with
    | 0 => exact (by omega : ∀ b d : ℕ, b * 256 + d = d + 256 * b) _ _
    | 1 => rfl

end Cert.AllReduce

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Value
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel runs, leaves its arguments unchanged and ends with every semaphore at zero. -/
theorem frame_kernel : Cert.quiescent_Kernel := fun m ρ _ => by
  rw [Cert.AllReduce.defs_same, Cert.AllReduce.main_same]
  exact Cert.AllReduce.run_frame (F := Bits) m ρ

/-- The same over exact numbers. -/
theorem frame_kernelIdeal : Cert.quiescent_KernelIdeal := fun m ρ _ => Cert.AllReduce.run_frame (F := Ideal) m ρ

/-- The same of the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over exact numbers every device of the kernel ends with the reference's product of the whole arrays. -/
theorem same_product : Cert.algebraic_KernelIdeal_ReferenceIdeal := fun m ρ m' ρ' _ hag =>
  ⟨_, (θ_run Cert.KernelIdeal.defs _ _).mono
      (fun _ h c => ⟨(h c).1.trans (Cert.AllReduce.total _ _ _ _ (fun d => (hag d).1) (fun d => (hag d).2)), (h c).2⟩)
      (Cert.AllReduce.run_total (F := Ideal) m ρ),
    (θ_run Cert.ReferenceIdeal.defs _ _).mono (fun _ h => h 0) (Cert.ReferenceIdeal.Value.run (F := Ideal) m' ρ')⟩

/-- All the claims. -/
theorem claim : Cert.Claim := ⟨Cert.Kernel.Gen.facts, Cert.KernelIdeal.Gen.facts, Cert.ReferenceIdeal.Gen.facts,
  frame_kernel, frame_kernelIdeal, frame_referenceIdeal, trivial, same_product⟩

end Cert.Proof

end
